-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_padding_trails [hPre_padding_trails : Cert.Pre_padding_trails.Facts] (m : (ℓ : Loc Cert.KernelIdeal.nD Cert.KernelIdeal.τ Cert.KernelIdeal.sig) → Buf (Elt Ideal) ℓ) : Prop :=
  ∀ c : Dev Cert.KernelIdeal.nD,
    (Cert.Pre_padding_trails.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_padding_trails [hPre_padding_trails : Cert.Pre_padding_trails.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_padding_trails.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_padding_trails [hKernelIdeal : Cert.KernelIdeal.Facts] [hPre_padding_trails : Cert.Pre_padding_trails.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_padding_trails m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_padding_trails [hReferenceIdeal : Cert.ReferenceIdeal.Facts] [hPre_padding_trails : Cert.Pre_padding_trails.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_padding_trails m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_padding_trails [hKernelIdeal : Cert.KernelIdeal.Facts] [hReferenceIdeal : Cert.ReferenceIdeal.Facts] [hPre_padding_trails : Cert.Pre_padding_trails.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_padding_trails m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_padding_trails : Cert.Pre_padding_trails.Facts),
    quiescent_Kernel (hKernel := hKernel)
    ∧ quiescent_KernelIdeal (hKernelIdeal := hKernelIdeal)
    ∧ quiescent_KernelIdeal_pre_padding_trails (hKernelIdeal := hKernelIdeal) (hPre_padding_trails := hPre_padding_trails)
    ∧ quiescent_ReferenceIdeal (hReferenceIdeal := hReferenceIdeal)
    ∧ quiescent_ReferenceIdeal_pre_padding_trails (hReferenceIdeal := hReferenceIdeal) (hPre_padding_trails := hPre_padding_trails)
    ∧ preserves_Kernel_KernelIdeal
    ∧ algebraic_KernelIdeal_ReferenceIdeal_pre_padding_trails (hKernelIdeal := hKernelIdeal) (hReferenceIdeal := hReferenceIdeal) (hPre_padding_trails := hPre_padding_trails)
-- ==== Pre_padding_trails.lean ====
abbrev S16384x200 : Shape := ⟨2, ![16384, 200]⟩
abbrev S16384x199 : Shape := ⟨2, ![16384, 199]⟩
abbrev S_ : Shape := ⟨0, ![]⟩

class Facts : Prop where
  slices_S16384x200_S16384x199_0_0 : S16384x200.Slices ![0, 0] S16384x199
  bcast_S_S16384x199 : S_.BroadcastsInDim S16384x199 (![] : Fin 0 → Fin S16384x199.rank)
  slices_S16384x200_S16384x199_0_1 : S16384x200.Slices ![0, 1] S16384x199

variable [Facts]

def fn {F : FTy → Type} [FloatOps F] (main_arg0 : FVec F S16384x200 .f32) : IVec S16384x199 1 :=
  let main_v0 : FVec F S16384x199 .f32 := (extractStridedSlice S16384x199 ![0, 0] · slices_S16384x200_S16384x199_0_0) main_arg0
  let main_cst : FVec F S_ .f32 := constant S_ .f32 0xBF800000#32
  let main_v1 : FVec F S16384x199 .f32 := broadcastInDim S16384x199 ![] bcast_S_S16384x199 main_cst
  let main_v2 : IVec S16384x199 1 := cmpf .une main_v0 main_v1
  let main_v3 : FVec F S16384x199 .f32 := (extractStridedSlice S16384x199 ![0, 1] · slices_S16384x200_S16384x199_0_1) main_arg0
  let main_cst_0 : FVec F S_ .f32 := constant S_ .f32 0xBF800000#32
  let main_v4 : FVec F S16384x199 .f32 := broadcastInDim S16384x199 ![] bcast_S_S16384x199 main_cst_0
  let main_v5 : IVec S16384x199 1 := cmpf .oeq main_v3 main_v4
  let main_v6 : IVec S16384x199 1 := ori main_v2 main_v5
  main_v6
-- ==== Kernel.lean ====
abbrev S16384x200 : Shape := ⟨2, ![16384, 200]⟩
abbrev S3276800 : Shape := ⟨1, ![3276800]⟩
abbrev S16384 : Shape := ⟨1, ![16384]⟩
abbrev S25600 : Shape := ⟨1, ![25600]⟩
abbrev S512 : Shape := ⟨1, ![512]⟩
abbrev S16 : Shape := ⟨1, ![16]⟩
abbrev S_ : Shape := ⟨0, ![]⟩

abbrev nBuf : Table → Nat
  | .hbm => 5
  | .local .scVector .vmem => 2
  | _ => 0

abbrev bufTy : (tb : Table) → Fin (nBuf tb) → BufTy
  | .hbm, ⟨0, _⟩ => ⟨S16384x200, .f32⟩
  | .hbm, ⟨1, _⟩ => ⟨S3276800, .f32⟩
  | .hbm, ⟨2, _⟩ => ⟨S3276800, .f32⟩
  | .hbm, ⟨3, _⟩ => ⟨S16384, .i32⟩
  | .hbm, ⟨4, _⟩ => ⟨S16384x200, .f32⟩
  | .local .scVector .vmem, ⟨0, _⟩ => ⟨S25600, .f32⟩
  | .local .scVector .vmem, ⟨1, _⟩ => ⟨S512, .i32⟩
  | _, _ => ⟨S16384x200, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c200_i32 : BitVec 32 := 200#32
  let v3 : BitVec 32 := Scalar.muli v2 c200_i32
  let v5 : BitVec 32 := Scalar.addi v3 c0_i32
  ![v5.toNat]
@[reducible] def k0_t1_loop : Scf.Loop 32 :=
  let c0_i32_1 : BitVec 32 := 0#32
  let c8_i32 : BitVec 32 := 8#32
  let v6 : BitVec 32 := Scalar.addi c0_i32_1 c8_i32
  let c1_i32 : BitVec 32 := 1#32
  ⟨c0_i32_1, v6, c1_i32⟩

def k0_chk1 (v39 : IVec S16 32) : Prop :=
  (∀ a x, ((![v39] : Fin 1 → IVec S16 32) a x).toNat < S25600.size a)
theorem k0_idx1_inb : ∀ (v39 : IVec S16 32) (k0_hw1 : k0_chk1 v39), ∀ a x, ((![v39] : Fin 1 → IVec S16 32) a x).toNat < S25600.size a := fun v39 k0_hw1 => k0_hw1

def k0_chk2 (v55 : IVec S16 32) : Prop :=
  (∀ a x, ((![v55] : Fin 1 → IVec S16 32) a x).toNat < S25600.size a)
theorem k0_idx2_inb : ∀ (v55 : IVec S16 32) (k0_hw2 : k0_chk2 v55), ∀ a x, ((![v55] : Fin 1 → IVec S16 32) a x).toNat < S25600.size a := fun v55 k0_hw2 => k0_hw2

def k0_chk3 (v71 : IVec S16 32) : Prop :=
  (∀ a x, ((![v71] : Fin 1 → IVec S16 32) a x).toNat < S25600.size a)
theorem k0_idx3_inb : ∀ (v71 : IVec S16 32) (k0_hw3 : k0_chk3 v71), ∀ a x, ((![v71] : Fin 1 → IVec S16 32) a x).toNat < S25600.size a := fun v71 k0_hw3 => k0_hw3

def k0_chk4 (v87 : IVec S16 32) : Prop :=
  (∀ a x, ((![v87] : Fin 1 → IVec S16 32) a x).toNat < S25600.size a)
theorem k0_idx4_inb : ∀ (v87 : IVec S16 32) (k0_hw4 : k0_chk4 v87), ∀ a x, ((![v87] : Fin 1 → IVec S16 32) a x).toNat < S25600.size a := fun v87 k0_hw4 => k0_hw4

def k0_chk5 (v103 : IVec S16 32) : Prop :=
  (∀ a x, ((![v103] : Fin 1 → IVec S16 32) a x).toNat < S25600.size a)
theorem k0_idx5_inb : ∀ (v103 : IVec S16 32) (k0_hw5 : k0_chk5 v103), ∀ a x, ((![v103] : Fin 1 → IVec S16 32) a x).toNat < S25600.size a := fun v103 k0_hw5 => k0_hw5

def k0_chk6 (v119 : IVec S16 32) : Prop :=
  (∀ a x, ((![v119] : Fin 1 → IVec S16 32) a x).toNat < S25600.size a)
theorem k0_idx6_inb : ∀ (v119 : IVec S16 32) (k0_hw6 : k0_chk6 v119), ∀ a x, ((![v119] : Fin 1 → IVec S16 32) a x).toNat < S25600.size a := fun v119 k0_hw6 => k0_hw6

def k0_chk7 (v135 : IVec S16 32) : Prop :=
  (∀ a x, ((![v135] : Fin 1 → IVec S16 32) a x).toNat < S25600.size a)
theorem k0_idx7_inb : ∀ (v135 : IVec S16 32) (k0_hw7 : k0_chk7 v135), ∀ a x, ((![v135] : Fin 1 → IVec S16 32) a x).toNat < S25600.size a := fun v135 k0_hw7 => k0_hw7

def k0_chk8 (v151 : IVec S16 32) : Prop :=
  (∀ a x, ((![v151] : Fin 1 → IVec S16 32) a x).toNat < S25600.size a)
theorem k0_idx8_inb : ∀ (v151 : IVec S16 32) (k0_hw8 : k0_chk8 v151), ∀ a x, ((![v151] : Fin 1 → IVec S16 32) a x).toNat < S25600.size a := fun v151 k0_hw8 => k0_hw8
def k0_off2 (k0_t1 : Fin k0_t1_loop.trips) : Fin 1 → Nat :=
  let c0_i32_72 : BitVec 32 := 0#32
  let c0_i32_1 : BitVec 32 := 0#32
  let c1_i32 : BitVec 32 := 1#32
  let arg7 : BitVec 32 := Scf.iv c0_i32_1 c1_i32 k0_t1
  let c16_i32_71 : BitVec 32 := 16#32
  let v161 : BitVec 32 := Scalar.muli arg7 c16_i32_71
  let v162 : BitVec 32 := Scalar.addi c0_i32_72 v161
  let v163 : Index := Scalar.indexCast v162
  ![v163.toNat]
@[reducible] def k0_t2_loop : Scf.Loop 32 :=
  let c0_i32_4 : BitVec 32 := 0#32
  let c1600_i32 : BitVec 32 := 1600#32
  let v8 : BitVec 32 := Scalar.addi c0_i32_4 c1600_i32
  let c1_i32_5 : BitVec 32 := 1#32
  ⟨c0_i32_4, v8, c1_i32_5⟩
def k0_off3 (k0_t2 : Fin k0_t2_loop.trips) : Fin 1 → Nat :=
  let c0_i32_4 : BitVec 32 := 0#32
  let c1_i32_5 : BitVec 32 := 1#32
  let arg7 : BitVec 32 := Scf.iv c0_i32_4 c1_i32_5 k0_t2
  let c16_i32 : BitVec 32 := 16#32
  let v26 : BitVec 32 := Scalar.muli arg7 c16_i32
  let v27 : Index := Scalar.indexCast v26
  ![v27.toNat]
@[reducible] def k0_t3_loop : Scf.Loop 32 :=
  let c0_i32_8 : BitVec 32 := 0#32
  let c8_i32_9 : BitVec 32 := 8#32
  let v11 : BitVec 32 := Scalar.addi c0_i32_8 c8_i32_9
  let c1_i32_10 : BitVec 32 := 1#32
  ⟨c0_i32_8, v11, c1_i32_10⟩

def k0_chk9 (v39 : IVec S16 32) : Prop :=
  (∀ a x, ((![v39] : Fin 1 → IVec S16 32) a x).toNat < S25600.size a)
theorem k0_idx9_inb : ∀ (v39 : IVec S16 32) (k0_hw9 : k0_chk9 v39), ∀ a x, ((![v39] : Fin 1 → IVec S16 32) a x).toNat < S25600.size a := fun v39 k0_hw9 => k0_hw9

def k0_chk10 (v55 : IVec S16 32) : Prop :=
  (∀ a x, ((![v55] : Fin 1 → IVec S16 32) a x).toNat < S25600.size a)
theorem k0_idx10_inb : ∀ (v55 : IVec S16 32) (k0_hw10 : k0_chk10 v55), ∀ a x, ((![v55] : Fin 1 → IVec S16 32) a x).toNat < S25600.size a := fun v55 k0_hw10 => k0_hw10

def k0_chk11 (v71 : IVec S16 32) : Prop :=
  (∀ a x, ((![v71] : Fin 1 → IVec S16 32) a x).toNat < S25600.size a)
theorem k0_idx11_inb : ∀ (v71 : IVec S16 32) (k0_hw11 : k0_chk11 v71), ∀ a x, ((![v71] : Fin 1 → IVec S16 32) a x).toNat < S25600.size a := fun v71 k0_hw11 => k0_hw11

def k0_chk12 (v87 : IVec S16 32) : Prop :=
  (∀ a x, ((![v87] : Fin 1 → IVec S16 32) a x).toNat < S25600.size a)
theorem k0_idx12_inb : ∀ (v87 : IVec S16 32) (k0_hw12 : k0_chk12 v87), ∀ a x, ((![v87] : Fin 1 → IVec S16 32) a x).toNat < S25600.size a := fun v87 k0_hw12 => k0_hw12

def k0_chk13 (v103 : IVec S16 32) : Prop :=
  (∀ a x, ((![v103] : Fin 1 → IVec S16 32) a x).toNat < S25600.size a)
theorem k0_idx13_inb : ∀ (v103 : IVec S16 32) (k0_hw13 : k0_chk13 v103), ∀ a x, ((![v103] : Fin 1 → IVec S16 32) a x).toNat < S25600.size a := fun v103 k0_hw13 => k0_hw13

def k0_chk14 (v119 : IVec S16 32) : Prop :=
  (∀ a x, ((![v119] : Fin 1 → IVec S16 32) a x).toNat < S25600.size a)
theorem k0_idx14_inb : ∀ (v119 : IVec S16 32) (k0_hw14 : k0_chk14 v119), ∀ a x, ((![v119] : Fin 1 → IVec S16 32) a x).toNat < S25600.size a := fun v119 k0_hw14 => k0_hw14

def k0_chk15 (v135 : IVec S16 32) : Prop :=
  (∀ a x, ((![v135] : Fin 1 → IVec S16 32) a x).toNat < S25600.size a)
theorem k0_idx15_inb : ∀ (v135 : IVec S16 32) (k0_hw15 : k0_chk15 v135), ∀ a x, ((![v135] : Fin 1 → IVec S16 32) a x).toNat < S25600.size a := fun v135 k0_hw15 => k0_hw15

def k0_chk16 (v151 : IVec S16 32) : Prop :=
  (∀ a x, ((![v151] : Fin 1 → IVec S16 32) a x).toNat < S25600.size a)
theorem k0_idx16_inb : ∀ (v151 : IVec S16 32) (k0_hw16 : k0_chk16 v151), ∀ a x, ((![v151] : Fin 1 → IVec S16 32) a x).toNat < S25600.size a := fun v151 k0_hw16 => k0_hw16
def k0_off4 (k0_t3 : Fin k0_t3_loop.trips) : Fin 1 → Nat :=
  let c128_i32 : BitVec 32 := 128#32
  let c0_i32_8 : BitVec 32 := 0#32
  let c1_i32_10 : BitVec 32 := 1#32
  let arg7 : BitVec 32 := Scf.iv c0_i32_8 c1_i32_10 k0_t3
  let c16_i32_71 : BitVec 32 := 16#32
  let v161 : BitVec 32 := Scalar.muli arg7 c16_i32_71
  let v162 : BitVec 32 := Scalar.addi c128_i32 v161
  let v163 : Index := Scalar.indexCast v162
  ![v163.toNat]
@[reducible] def k0_t4_loop : Scf.Loop 32 :=
  let c0_i32_13 : BitVec 32 := 0#32
  let c1600_i32_14 : BitVec 32 := 1600#32
  let v13 : BitVec 32 := Scalar.addi c0_i32_13 c1600_i32_14
  let c1_i32_15 : BitVec 32 := 1#32
  ⟨c0_i32_13, v13, c1_i32_15⟩
def k0_off5 (k0_t4 : Fin k0_t4_loop.trips) : Fin 1 → Nat :=
  let c0_i32_13 : BitVec 32 := 0#32
  let c1_i32_15 : BitVec 32 := 1#32
  let arg7 : BitVec 32 := Scf.iv c0_i32_13 c1_i32_15 k0_t4
  let c16_i32 : BitVec 32 := 16#32
  let v26 : BitVec 32 := Scalar.muli arg7 c16_i32
  let v27 : Index := Scalar.indexCast v26
  ![v27.toNat]
@[reducible] def k0_t5_loop : Scf.Loop 32 :=
  let c0_i32_18 : BitVec 32 := 0#32
  let c8_i32_19 : BitVec 32 := 8#32
  let v16 : BitVec 32 := Scalar.addi c0_i32_18 c8_i32_19
  let c1_i32_20 : BitVec 32 := 1#32
  ⟨c0_i32_18, v16, c1_i32_20⟩

def k0_chk17 (v39 : IVec S16 32) : Prop :=
  (∀ a x, ((![v39] : Fin 1 → IVec S16 32) a x).toNat < S25600.size a)
theorem k0_idx17_inb : ∀ (v39 : IVec S16 32) (k0_hw17 : k0_chk17 v39), ∀ a x, ((![v39] : Fin 1 → IVec S16 32) a x).toNat < S25600.size a := fun v39 k0_hw17 => k0_hw17

def k0_chk18 (v55 : IVec S16 32) : Prop :=
  (∀ a x, ((![v55] : Fin 1 → IVec S16 32) a x).toNat < S25600.size a)
theorem k0_idx18_inb : ∀ (v55 : IVec S16 32) (k0_hw18 : k0_chk18 v55), ∀ a x, ((![v55] : Fin 1 → IVec S16 32) a x).toNat < S25600.size a := fun v55 k0_hw18 => k0_hw18

def k0_chk19 (v71 : IVec S16 32) : Prop :=
  (∀ a x, ((![v71] : Fin 1 → IVec S16 32) a x).toNat < S25600.size a)
theorem k0_idx19_inb : ∀ (v71 : IVec S16 32) (k0_hw19 : k0_chk19 v71), ∀ a x, ((![v71] : Fin 1 → IVec S16 32) a x).toNat < S25600.size a := fun v71 k0_hw19 => k0_hw19

def k0_chk20 (v87 : IVec S16 32) : Prop :=
  (∀ a x, ((![v87] : Fin 1 → IVec S16 32) a x).toNat < S25600.size a)
theorem k0_idx20_inb : ∀ (v87 : IVec S16 32) (k0_hw20 : k0_chk20 v87), ∀ a x, ((![v87] : Fin 1 → IVec S16 32) a x).toNat < S25600.size a := fun v87 k0_hw20 => k0_hw20

def k0_chk21 (v103 : IVec S16 32) : Prop :=
  (∀ a x, ((![v103] : Fin 1 → IVec S16 32) a x).toNat < S25600.size a)
theorem k0_idx21_inb : ∀ (v103 : IVec S16 32) (k0_hw21 : k0_chk21 v103), ∀ a x, ((![v103] : Fin 1 → IVec S16 32) a x).toNat < S25600.size a := fun v103 k0_hw21 => k0_hw21

def k0_chk22 (v119 : IVec S16 32) : Prop :=
  (∀ a x, ((![v119] : Fin 1 → IVec S16 32) a x).toNat < S25600.size a)
theorem k0_idx22_inb : ∀ (v119 : IVec S16 32) (k0_hw22 : k0_chk22 v119), ∀ a x, ((![v119] : Fin 1 → IVec S16 32) a x).toNat < S25600.size a := fun v119 k0_hw22 => k0_hw22

def k0_chk23 (v135 : IVec S16 32) : Prop :=
  (∀ a x, ((![v135] : Fin 1 → IVec S16 32) a x).toNat < S25600.size a)
theorem k0_idx23_inb : ∀ (v135 : IVec S16 32) (k0_hw23 : k0_chk23 v135), ∀ a x, ((![v135] : Fin 1 → IVec S16 32) a x).toNat < S25600.size a := fun v135 k0_hw23 => k0_hw23

def k0_chk24 (v151 : IVec S16 32) : Prop :=
  (∀ a x, ((![v151] : Fin 1 → IVec S16 32) a x).toNat < S25600.size a)
theorem k0_idx24_inb : ∀ (v151 : IVec S16 32) (k0_hw24 : k0_chk24 v151), ∀ a x, ((![v151] : Fin 1 → IVec S16 32) a x).toNat < S25600.size a := fun v151 k0_hw24 => k0_hw24
def k0_off6 (k0_t5 : Fin k0_t5_loop.trips) : Fin 1 → Nat :=
  let c256_i32 : BitVec 32 := 256#32
  let c0_i32_18 : BitVec 32 := 0#32
  let c1_i32_20 : BitVec 32 := 1#32
  let arg7 : BitVec 32 := Scf.iv c0_i32_18 c1_i32_20 k0_t5
  let c16_i32_71 : BitVec 32 := 16#32
  let v161 : BitVec 32 := Scalar.muli arg7 c16_i32_71
  let v162 : BitVec 32 := Scalar.addi c256_i32 v161
  let v163 : Index := Scalar.indexCast v162
  ![v163.toNat]
@[reducible] def k0_t6_loop : Scf.Loop 32 :=
  let c0_i32_23 : BitVec 32 := 0#32
  let c1600_i32_24 : BitVec 32 := 1600#32
  let v18 : BitVec 32 := Scalar.addi c0_i32_23 c1600_i32_24
  let c1_i32_25 : BitVec 32 := 1#32
  ⟨c0_i32_23, v18, c1_i32_25⟩
def k0_off7 (k0_t6 : Fin k0_t6_loop.trips) : Fin 1 → Nat :=
  let c0_i32_23 : BitVec 32 := 0#32
  let c1_i32_25 : BitVec 32 := 1#32
  let arg7 : BitVec 32 := Scf.iv c0_i32_23 c1_i32_25 k0_t6
  let c16_i32 : BitVec 32 := 16#32
  let v26 : BitVec 32 := Scalar.muli arg7 c16_i32
  let v27 : Index := Scalar.indexCast v26
  ![v27.toNat]
@[reducible] def k0_t7_loop : Scf.Loop 32 :=
  let c0_i32_28 : BitVec 32 := 0#32
  let c8_i32_29 : BitVec 32 := 8#32
  let v21 : BitVec 32 := Scalar.addi c0_i32_28 c8_i32_29
  let c1_i32_30 : BitVec 32 := 1#32
  ⟨c0_i32_28, v21, c1_i32_30⟩

def k0_chk25 (v39 : IVec S16 32) : Prop :=
  (∀ a x, ((![v39] : Fin 1 → IVec S16 32) a x).toNat < S25600.size a)
theorem k0_idx25_inb : ∀ (v39 : IVec S16 32) (k0_hw25 : k0_chk25 v39), ∀ a x, ((![v39] : Fin 1 → IVec S16 32) a x).toNat < S25600.size a := fun v39 k0_hw25 => k0_hw25

def k0_chk26 (v55 : IVec S16 32) : Prop :=
  (∀ a x, ((![v55] : Fin 1 → IVec S16 32) a x).toNat < S25600.size a)
theorem k0_idx26_inb : ∀ (v55 : IVec S16 32) (k0_hw26 : k0_chk26 v55), ∀ a x, ((![v55] : Fin 1 → IVec S16 32) a x).toNat < S25600.size a := fun v55 k0_hw26 => k0_hw26

def k0_chk27 (v71 : IVec S16 32) : Prop :=
  (∀ a x, ((![v71] : Fin 1 → IVec S16 32) a x).toNat < S25600.size a)
theorem k0_idx27_inb : ∀ (v71 : IVec S16 32) (k0_hw27 : k0_chk27 v71), ∀ a x, ((![v71] : Fin 1 → IVec S16 32) a x).toNat < S25600.size a := fun v71 k0_hw27 => k0_hw27

def k0_chk28 (v87 : IVec S16 32) : Prop :=
  (∀ a x, ((![v87] : Fin 1 → IVec S16 32) a x).toNat < S25600.size a)
theorem k0_idx28_inb : ∀ (v87 : IVec S16 32) (k0_hw28 : k0_chk28 v87), ∀ a x, ((![v87] : Fin 1 → IVec S16 32) a x).toNat < S25600.size a := fun v87 k0_hw28 => k0_hw28

def k0_chk29 (v103 : IVec S16 32) : Prop :=
  (∀ a x, ((![v103] : Fin 1 → IVec S16 32) a x).toNat < S25600.size a)
theorem k0_idx29_inb : ∀ (v103 : IVec S16 32) (k0_hw29 : k0_chk29 v103), ∀ a x, ((![v103] : Fin 1 → IVec S16 32) a x).toNat < S25600.size a := fun v103 k0_hw29 => k0_hw29

def k0_chk30 (v119 : IVec S16 32) : Prop :=
  (∀ a x, ((![v119] : Fin 1 → IVec S16 32) a x).toNat < S25600.size a)
theorem k0_idx30_inb : ∀ (v119 : IVec S16 32) (k0_hw30 : k0_chk30 v119), ∀ a x, ((![v119] : Fin 1 → IVec S16 32) a x).toNat < S25600.size a := fun v119 k0_hw30 => k0_hw30

def k0_chk31 (v135 : IVec S16 32) : Prop :=
  (∀ a x, ((![v135] : Fin 1 → IVec S16 32) a x).toNat < S25600.size a)
theorem k0_idx31_inb : ∀ (v135 : IVec S16 32) (k0_hw31 : k0_chk31 v135), ∀ a x, ((![v135] : Fin 1 → IVec S16 32) a x).toNat < S25600.size a := fun v135 k0_hw31 => k0_hw31

def k0_chk32 (v151 : IVec S16 32) : Prop :=
  (∀ a x, ((![v151] : Fin 1 → IVec S16 32) a x).toNat < S25600.size a)
theorem k0_idx32_inb : ∀ (v151 : IVec S16 32) (k0_hw32 : k0_chk32 v151), ∀ a x, ((![v151] : Fin 1 → IVec S16 32) a x).toNat < S25600.size a := fun v151 k0_hw32 => k0_hw32
def k0_off8 (k0_t7 : Fin k0_t7_loop.trips) : Fin 1 → Nat :=
  let c384_i32 : BitVec 32 := 384#32
  let c0_i32_28 : BitVec 32 := 0#32
  let c1_i32_30 : BitVec 32 := 1#32
  let arg7 : BitVec 32 := Scf.iv c0_i32_28 c1_i32_30 k0_t7
  let c16_i32_71 : BitVec 32 := 16#32
  let v161 : BitVec 32 := Scalar.muli arg7 c16_i32_71
  let v162 : BitVec 32 := Scalar.addi c384_i32 v161
  let v163 : Index := Scalar.indexCast v162
  ![v163.toNat]
@[reducible] def k0_t8_loop : Scf.Loop 32 :=
  let c0_i32_33 : BitVec 32 := 0#32
  let c1600_i32_34 : BitVec 32 := 1600#32
  let v23 : BitVec 32 := Scalar.addi c0_i32_33 c1600_i32_34
  let c1_i32_35 : BitVec 32 := 1#32
  ⟨c0_i32_33, v23, c1_i32_35⟩
def k0_off9 (k0_t8 : Fin k0_t8_loop.trips) : Fin 1 → Nat :=
  let c0_i32_33 : BitVec 32 := 0#32
  let c1_i32_35 : BitVec 32 := 1#32
  let arg7 : BitVec 32 := Scf.iv c0_i32_33 c1_i32_35 k0_t8
  let c16_i32 : BitVec 32 := 16#32
  let v26 : BitVec 32 := Scalar.muli arg7 c16_i32
  let v27 : Index := Scalar.indexCast v26
  ![v27.toNat]
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_37 : BitVec 32 := 512#32
  let v25 : BitVec 32 := Scalar.muli v1 c512_i32_37
  ![v25.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S_ : Shape := ⟨0, ![]⟩
abbrev S200 : Shape := ⟨1, ![200]⟩
abbrev S1x200 : Shape := ⟨2, ![1, 200]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x200, .f32⟩
  | .hbm, ⟨1, _⟩ => ⟨S_, .f32⟩
  | .hbm, ⟨2, _⟩ => ⟨S16384x200, .f32⟩
  | .hbm, ⟨3, _⟩ => ⟨S16384x200, .i1⟩
  | .hbm, ⟨4, _⟩ => ⟨S200, .i32⟩
  | .hbm, ⟨5, _⟩ => ⟨S_, .i32⟩
  | .hbm, ⟨6, _⟩ => ⟨S200, .i32⟩
  | .hbm, ⟨7, _⟩ => ⟨S200, .i32⟩
  | .hbm, ⟨8, _⟩ => ⟨S1x200, .i32⟩
  | .hbm, ⟨9, _⟩ => ⟨S_, .i32⟩
  | .hbm, ⟨10, _⟩ => ⟨S_, .i32⟩
  | .hbm, ⟨11, _⟩ => ⟨S16384x200, .i32⟩
  | .hbm, ⟨12, _⟩ => ⟨S16384x200, .i32⟩
  | .hbm, ⟨13, _⟩ => ⟨S16384x200, .i32⟩
  | .hbm, ⟨14, _⟩ => ⟨S_, .i32⟩
  | .hbm, ⟨15, _⟩ => ⟨S16384, .i32⟩
  | .hbm, ⟨16, _⟩ => ⟨S200, .i32⟩
  | .hbm, ⟨17, _⟩ => ⟨S1x200, .i32⟩
  | .hbm, ⟨18, _⟩ => ⟨S16384x1, .i32⟩
  | .hbm, ⟨19, _⟩ => ⟨S16384x200, .i32⟩
  | .hbm, ⟨20, _⟩ => ⟨S16384x200, .i32⟩
  | .hbm, ⟨21, _⟩ => ⟨S16384x200, .i1⟩
  | .hbm, ⟨22, _⟩ => ⟨S_, .f32⟩
  | .hbm, ⟨23, _⟩ => ⟨S16384x200, .f32⟩
  | .hbm, ⟨24, _⟩ => ⟨S16384x200, .f32⟩
  | _, _ => ⟨S16384x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call1_v0 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Proof.Search.lean ====
/-
  The bisection of one row, on natural numbers and on vectors of 32-bit words.

  A row of 200 elements is described by the predicate `p` (is element `k` the padding word?). The kernel keeps a
  window `lo ≤ hi ≤ 200` and halves it eight times: while the window is not empty it looks at the middle element
  (never beyond element 199) and keeps the lower half if that element is padding, the upper half otherwise. The row's
  length is the lower end after eight halvings.
-/
module

public import Idealize.ShloMosaic.PureOps

@[expose] public section

noncomputable section

namespace Cert.Search

open Idealize.ShloMosaic

/-! ## On natural numbers -/

/-- The element of the row the window `w` looks at. -/
def probe (w : ℕ × ℕ) : ℕ := min ((w.1 + w.2) / 2) 199

/-- One halving of the window `w`. -/
def step (p : ℕ → Bool) (w : ℕ × ℕ) : ℕ × ℕ :=
  if w.1 < w.2 then
    if p (probe w) then (w.1, (w.1 + w.2) / 2) else ((w.1 + w.2) / 2 + 1, w.2)
  else w

/-- The window after `n` halvings. -/
def window (p : ℕ → Bool) : ℕ → ℕ × ℕ
  | 0 => (0, 200)
  | n + 1 => step p (window p n)

/-- The length of the row that the eight halvings find. -/
def len (p : ℕ → Bool) : ℕ := (window p 8).1

/-- A window lies inside the row. -/
def Good (w : ℕ × ℕ) : Prop := w.1 ≤ w.2 ∧ w.2 ≤ 200

/-- A halving keeps the window inside the row. -/
theorem step_good (p : ℕ → Bool) {w : ℕ × ℕ} (h : Good w) : Good (step p w) := by
  obtain ⟨h1, h2⟩ := h
  unfold step
  split
  · split <;> constructor <;> dsimp only <;> omega
  · exact ⟨h1, h2⟩

/-- Every window of the bisection lies inside the row. -/
theorem window_good (p : ℕ → Bool) : ∀ n, Good (window p n)
  | 0 => ⟨by show 0 ≤ 200; omega, le_refl _⟩
  | n + 1 => step_good p (window_good p n)

/-- The element looked at is one of the row. -/
theorem probe_le (w : ℕ × ℕ) : probe w ≤ 199 := Nat.min_le_right _ _

/-- The length found is at most 200. -/
theorem len_le (p : ℕ → Bool) : len p ≤ 200 :=
  le_trans (window_good p 8).1 (window_good p 8).2

/-- A halving at least halves the window's width. -/
theorem step_width (p : ℕ → Bool) (w : ℕ × ℕ) : (step p w).2 - (step p w).1 ≤ (w.2 - w.1) / 2 := by
  unfold step
  split
  · split <;> dsimp only <;> omega
  · omega

/-- After eight halvings the window is empty. -/
theorem window_width (p : ℕ → Bool) : (window p 8).2 - (window p 8).1 = 0 := by
  have h (n : ℕ) := step_width p (window p n)
  have h0 : (window p 0).2 - (window p 0).1 = 200 := rfl
  have h1 := h 0; have h2 := h 1; have h3 := h 2; have h4 := h 3
  have h5 := h 4; have h6 := h 5; have h7 := h 6; have h8 := h 7
  simp only [show ∀ n, step p (window p n) = window p (n + 1) from fun _ => rfl, Nat.reduceAdd] at *
  omega

/-- What a window says of a row whose padding trails: everything before it is data, everything after it padding. -/
def Splits (p : ℕ → Bool) (w : ℕ × ℕ) : Prop := (∀ k < w.1, p k = false) ∧ ∀ k, w.2 ≤ k → k < 200 → p k = true

/-- A halving of a row whose padding trails keeps data below the window and padding above it. -/
theorem step_splits {p : ℕ → Bool} (hp : ∀ j k, j ≤ k → k < 200 → p j = true → p k = true) {w : ℕ × ℕ}
    (hg : Good w) (h : Splits p w) : Splits p (step p w) := by
  obtain ⟨g1, g2⟩ := hg
  obtain ⟨h1, h2⟩ := h
  unfold step
  split
  case isFalse => exact ⟨h1, h2⟩
  case isTrue hlt =>
    have hm : probe w = (w.1 + w.2) / 2 := by unfold probe; omega
    rw [hm]
    split
    case isTrue hpm => exact ⟨h1, fun k hk hk2 => hp _ _ hk hk2 hpm⟩
    case isFalse hpm =>
      refine ⟨fun k hk => ?_, h2⟩
      by_contra hc
      exact hpm (hp k _ (by dsimp only at hk; omega) (by omega) (by simpa using hc))

/-- In a row whose padding trails every window has data below it and padding above it. -/
theorem window_splits {p : ℕ → Bool} (hp : ∀ j k, j ≤ k → k < 200 → p j = true → p k = true) :
    ∀ n, Splits p (window p n)
  | 0 => ⟨fun k hk => absurd hk (Nat.not_lt_zero k), fun k h1 h2 => absurd h1 (by show ¬ 200 ≤ k; omega)⟩
  | n + 1 => step_splits hp (window_good p n) (window_splits hp n)

/-- Of a row whose padding trails, element `k` is data exactly when `k` is below the length found. -/
theorem len_spec {p : ℕ → Bool} (hp : ∀ j k, j ≤ k → k < 200 → p j = true → p k = true) {k : ℕ} (hk : k < 200) :
    p k = false ↔ k < len p := by
  have hw := window_width p
  have hg := window_good p 8
  obtain ⟨h1, h2⟩ := window_splits hp 8
  refine ⟨fun h => ?_, fun h => h1 k h⟩
  by_contra hc
  have := h2 k (by have := hg.1; unfold len at hc; omega) hk
  simp [this] at h

/-- The length found depends on the row's 200 elements alone. -/
theorem len_congr {p q : ℕ → Bool} (h : ∀ k < 200, p k = q k) : len p = len q := by
  have hw (n : ℕ) : window p n = window q n := by
    induction n with
    | zero => rfl
    | succ n ih =>
      show step p (window p n) = step q (window q n)
      unfold step
      rw [ih, h _ (Nat.lt_succ_of_le (probe_le _))]
  exact congrArg Prod.fst (hw 8)

/-! ## On words -/

variable {F : FTy → Type} [FloatOps F] {s : Shape}

/-- The padding word, −1. -/
def padWord : F .f32 := Scalar.ofBits .f32 0xBF800000#32

/-- Is this element padding? -/
def isPad (x : F .f32) : Bool := FloatOps.cmpf .oeq x padWord == 1#1

/-- Natural numbers as a vector of words. -/
def enc (a : s.Idx → ℕ) : IVec s 32 := fun x => BitVec.ofNat 32 (a x)

/-- The middle of the windows `lo`, `hi`. -/
def midV (lo hi : IVec s 32) : IVec s 32 := shrsi (addi lo hi) (broadcast s 1#32)

/-- Where the windows look: `base` is where each row starts. -/
def atV (base mid : IVec s 32) : IVec s 32 := addi base (minsi mid (broadcast s 199#32))

/-- The next lower ends, of what was read. -/
def loV (lo : IVec s 32) (active : IVec s 1) (mid : IVec s 32) (v : FVec F s .f32) : IVec s 32 :=
  select active (select (cmpf .oeq v (broadcast s padWord)) lo (addi mid (broadcast s 1#32))) lo

/-- The next upper ends, of what was read. -/
def hiV (hi : IVec s 32) (active : IVec s 1) (mid : IVec s 32) (v : FVec F s .f32) : IVec s 32 :=
  select active (select (cmpf .oeq v (broadcast s padWord)) mid hi) hi

/-- The word of a small number, read as a signed integer, is the number. -/
theorem toInt_ofNat_small {n : ℕ} (h : n ≤ 400) : (BitVec.ofNat 32 n).toInt = n := by
  rw [BitVec.toInt_eq_toNat_of_lt] <;> rw [BitVec.toNat_ofNat] <;> omega

/-- The signed order of the words of two small numbers is the order of the numbers. -/
theorem slt_ofNat {a b : ℕ} (ha : a ≤ 400) (hb : b ≤ 400) :
    (BitVec.ofNat 32 a).slt (BitVec.ofNat 32 b) = decide (a < b) := by
  rw [BitVec.slt, toInt_ofNat_small ha, toInt_ofNat_small hb]
  simp

/-- The middle word of a window is the word of its middle. -/
theorem midV_enc {w : s.Idx → ℕ × ℕ} (hw : ∀ x, Good (w x)) :
    midV (enc fun x => (w x).1) (enc fun x => (w x).2) = enc fun x => ((w x).1 + (w x).2) / 2 := by
  funext x
  obtain ⟨h1, h2⟩ := hw x
  show IntOp.shrsi .vector (BitVec.ofNat 32 (w x).1 + BitVec.ofNat 32 (w x).2) 1#32 = BitVec.ofNat 32 _
  rw [← BitVec.ofNat_add]
  show (if (1#32).toNat < 32 then _ else _) = _
  rw [if_pos (by decide)]
  apply BitVec.eq_of_toNat_eq
  show ((BitVec.ofNat 32 ((w x).1 + (w x).2)).sshiftRight 1).toNat = (BitVec.ofNat 32 (((w x).1 + (w x).2) / 2)).toNat
  rw [BitVec.sshiftRight_eq_of_msb_false, BitVec.toNat_ushiftRight, BitVec.toNat_ofNat, BitVec.toNat_ofNat,
    Nat.shiftRight_eq_div_pow]
  · omega
  · rw [BitVec.msb_eq_false_iff_two_mul_lt, BitVec.toNat_ofNat]
    omega

/-- The windows look at element `probe` of their rows. -/
theorem atV_enc (base : s.Idx → ℕ) {w : s.Idx → ℕ × ℕ} (hw : ∀ x, Good (w x)) :
    atV (enc base) (enc fun x => ((w x).1 + (w x).2) / 2) = enc fun x => base x + probe (w x) := by
  funext x
  obtain ⟨h1, h2⟩ := hw x
  show BitVec.ofNat 32 (base x) + IntOp.minsi (BitVec.ofNat 32 (((w x).1 + (w x).2) / 2)) (BitVec.ofNat 32 199) = BitVec.ofNat 32 _
  rw [IntOp.minsi, slt_ofNat (by omega) (by omega), BitVec.ofNat_add]
  congr 1
  unfold probe
  by_cases h : ((w x).1 + (w x).2) / 2 < 199
  · rw [if_pos (by simpa using h), min_eq_left h.le]
  · rw [if_neg (by simpa using h), min_eq_right (by omega)]

/-- Whether the windows are still open. -/
theorem active_enc {w : s.Idx → ℕ × ℕ} (hw : ∀ x, Good (w x)) :
    cmpi .slt (enc fun x => (w x).1) (enc fun x => (w x).2) = fun x => BitVec.ofBool (decide ((w x).1 < (w x).2)) := by
  funext x
  obtain ⟨h1, h2⟩ := hw x
  show BitVec.ofBool ((BitVec.ofNat 32 (w x).1).slt (BitVec.ofNat 32 (w x).2)) = _
  rw [slt_ofNat (by omega) (by omega)]

/-- A selection by a decided condition is a choice between its two values. -/
theorem select_ofBool {α : Type} (b : Bool) (x y : α) : Scalar.select (BitVec.ofBool b) x y = if b then x else y := by
  cases b <;> rfl

/-- A selection by the comparison with the padding word is a choice by whether the value is padding. -/
theorem select_pad {α : Type} (v : F .f32) (x y : α) :
    Scalar.select (FloatOps.cmpf .oeq v padWord) x y = if isPad v then x else y := by
  show (if FloatOps.cmpf .oeq v padWord = 1#1 then x else y) = if (FloatOps.cmpf .oeq v padWord == 1#1) then x else y
  by_cases h : FloatOps.cmpf .oeq v padWord = 1#1
  · rw [if_pos h, if_pos (by simpa using h)]
  · rw [if_neg h, if_neg (by simpa using h)]

/-- The next lower ends are those of the next windows. -/
theorem loV_enc {p : s.Idx → ℕ → Bool} {w : s.Idx → ℕ × ℕ} {v : FVec F s .f32} (hw : ∀ x, Good (w x))
    (hv : ∀ x, isPad (v x) = p x (probe (w x))) :
    loV (enc fun x => (w x).1) (cmpi .slt (enc fun x => (w x).1) (enc fun x => (w x).2)) (enc fun x => ((w x).1 + (w x).2) / 2) v
      = enc fun x => (step (p x) (w x)).1 := by
  rw [active_enc hw]
  funext x
  show Scalar.select (BitVec.ofBool _) (Scalar.select (FloatOps.cmpf .oeq (v x) padWord) (BitVec.ofNat 32 _)
    (BitVec.ofNat 32 _ + BitVec.ofNat 32 1)) (BitVec.ofNat 32 _) = BitVec.ofNat 32 _
  rw [select_ofBool, select_pad, hv, ← BitVec.ofNat_add]
  unfold step
  simp only [decide_eq_true_eq]
  split <;> [split; skip] <;> rfl

/-- The next upper ends are those of the next windows. -/
theorem hiV_enc {p : s.Idx → ℕ → Bool} {w : s.Idx → ℕ × ℕ} {v : FVec F s .f32} (hw : ∀ x, Good (w x))
    (hv : ∀ x, isPad (v x) = p x (probe (w x))) :
    hiV (enc fun x => (w x).2) (cmpi .slt (enc fun x => (w x).1) (enc fun x => (w x).2)) (enc fun x => ((w x).1 + (w x).2) / 2) v
      = enc fun x => (step (p x) (w x)).2 := by
  rw [active_enc hw]
  funext x
  show Scalar.select (BitVec.ofBool _) (Scalar.select (FloatOps.cmpf .oeq (v x) padWord) (BitVec.ofNat 32 _)
    (BitVec.ofNat 32 _)) (BitVec.ofNat 32 _) = BitVec.ofNat 32 _
  rw [select_ofBool, select_pad, hv]
  unfold step
  simp only [decide_eq_true_eq]
  split <;> [split; skip] <;> rfl

/-! ## One-axis arrays read at a natural number -/

/-- Position `j` of a one-axis array of `n` elements (`j` taken modulo `n`, so that it is defined everywhere). -/
def pos (n : ℕ) [NeZero n] (j : ℕ) : (⟨1, ![n]⟩ : Shape).Idx := Shape.ofLane (d := ![n]) ⟨j % n, Nat.mod_lt j (Nat.pos_of_ne_zero (NeZero.ne n))⟩

/-- Position `j` of a vector has the coordinate `j`. -/
theorem pos_val {n : ℕ} [NeZero n] {j : ℕ} (h : j < n) (a : Fin 1) : (pos n j a).val = j := Nat.mod_eq_of_lt h

/-- Every index of a vector is the position of its coordinate. -/
theorem pos_eq {n : ℕ} [NeZero n] (i : (⟨1, ![n]⟩ : Shape).Idx) : pos n (i (0 : Fin 1)).val = i := by
  funext a
  obtain rfl : a = (0 : Fin 1) := Subsingleton.elim (α := Fin 1) _ _
  exact Fin.ext (pos_val (n := n) (i (0 : Fin 1)).isLt 0)

/-- An index with the coordinate `j` is position `j`. -/
theorem eq_pos {n : ℕ} [NeZero n] {i : (⟨1, ![n]⟩ : Shape).Idx} {j : ℕ} (h : (i (0 : Fin 1)).val = j) : i = pos n j := by
  rw [← h, pos_eq]

/-- The index a gather reads for lane `x`, when its words hold natural numbers inside the array. -/
theorem idxAt_enc {n : ℕ} [NeZero n] (a : s.Idx → ℕ) (ha : ∀ x, a x < n) (hn : n ≤ 2 ^ 32) (idxs : Fin 1 → IVec s 32)
    (hi : idxs = ![enc a]) (h : ∀ c x, (idxs c x).toNat < (⟨1, ![n]⟩ : Shape).size c) (x : s.Idx) :
    idxAt (s := ⟨1, ![n]⟩) idxs h x = pos n (a x) := by
  subst hi
  apply eq_pos
  show (BitVec.ofNat 32 (a x)).toNat = _
  rw [BitVec.toNat_ofNat]
  exact Nat.mod_eq_of_lt (lt_of_lt_of_le (ha x) hn)

/-- Words of numbers below `n` are places of a vector of `n` elements. -/
theorem inb_enc {n : ℕ} (a : s.Idx → ℕ) (ha : ∀ x, a x < n) (hn : n ≤ 2 ^ 32) :
    ∀ c x, ((![enc a] : Fin 1 → IVec s 32) c x).toNat < (⟨1, ![n]⟩ : Shape).size c := by
  intro c x
  obtain rfl : c = (0 : Fin 1) := Subsingleton.elim (α := Fin 1) _ _
  show (BitVec.ofNat 32 (a x)).toNat < n
  rw [BitVec.toNat_ofNat]
  exact lt_of_le_of_lt (Nat.mod_le _ _) (ha x)

/-! ## The windows of many rows, as the kernel holds them -/

section Rows

/-- The lower ends of the windows after `n` halvings. -/
def lo (p : s.Idx → ℕ → Bool) (n : ℕ) : IVec s 32 := enc fun x => (window (p x) n).1
/-- The upper ends of the windows after `n` halvings. -/
def hi (p : s.Idx → ℕ → Bool) (n : ℕ) : IVec s 32 := enc fun x => (window (p x) n).2
/-- Which windows are still open after `n` halvings. -/
def active (p : s.Idx → ℕ → Bool) (n : ℕ) : IVec s 1 := cmpi .slt (lo p n) (hi p n)
/-- The middles of the windows after `n` halvings. -/
def mid (p : s.Idx → ℕ → Bool) (n : ℕ) : IVec s 32 := midV (lo p n) (hi p n)

/-- The lanes still searching are those whose window is not empty. -/
theorem active_def (p : s.Idx → ℕ → Bool) (n : ℕ) : active p n = cmpi .slt (lo p n) (hi p n) := rfl
/-- The middle words are those of the windows' ends. -/
theorem mid_def (p : s.Idx → ℕ → Bool) (n : ℕ) : mid p n = midV (lo p n) (hi p n) := rfl

/-- The vector `v` holds what the windows look at after `n` halvings. -/
def Reads (p : s.Idx → ℕ → Bool) (n : ℕ) (v : FVec F s .f32) : Prop := ∀ x, isPad (v x) = p x (probe (window (p x) n))

/-- The middle words are the words of the windows' middles. -/
theorem mid_eq (p : s.Idx → ℕ → Bool) (n : ℕ) : mid p n = enc fun x => ((window (p x) n).1 + (window (p x) n).2) / 2 :=
  midV_enc fun x => window_good (p x) n

/-- A halving takes the lower ends to the next windows'. -/
theorem lo_succ {p : s.Idx → ℕ → Bool} {n : ℕ} {v : FVec F s .f32} (hv : Reads p n v) :
    loV (lo p n) (active p n) (mid p n) v = lo p (n + 1) := by
  rw [mid_eq]
  exact loV_enc (fun x => window_good (p x) n) hv

/-- A halving takes the upper ends to the next windows'. -/
theorem hi_succ {p : s.Idx → ℕ → Bool} {n : ℕ} {v : FVec F s .f32} (hv : Reads p n v) :
    hiV (hi p n) (active p n) (mid p n) v = hi p (n + 1) := by
  rw [mid_eq]
  exact hiV_enc (fun x => window_good (p x) n) hv

/-- The places looked at are the words of each row's start plus its probe. -/
theorem at_eq (base : s.Idx → ℕ) (p : s.Idx → ℕ → Bool) (n : ℕ) :
    atV (enc base) (mid p n) = enc fun x => base x + probe (window (p x) n) := by
  rw [mid_eq]
  exact atV_enc base fun x => window_good (p x) n

/-- Which elements are padding, of the rows of 200 that start at `base` in the one-axis array `B`. -/
def padOf {n : ℕ} [NeZero n] (B : (⟨1, ![n]⟩ : Shape).Idx → F .f32) (base : s.Idx → ℕ) : s.Idx → ℕ → Bool :=
  fun x k => isPad (B (pos n (base x + k)))

/-- The positions looked at are inside the array. -/
theorem at_inb {n : ℕ} (base : s.Idx → ℕ) (hb : ∀ x, base x + 200 ≤ n) (hn : n ≤ 2 ^ 32) (p : s.Idx → ℕ → Bool) (k : ℕ) :
    ∀ c x, ((![atV (enc base) (mid p k)] : Fin 1 → IVec s 32) c x).toNat < (⟨1, ![n]⟩ : Shape).size c := by
  rw [at_eq]
  exact inb_enc _ (fun x => by have := hb x; have := probe_le (window (p x) k); omega) hn

/-- A gather at those positions reads what the windows look at. -/
theorem reads_loadIdx {n : ℕ} [NeZero n] (B : (⟨1, ![n]⟩ : Shape).Idx → F .f32) (base : s.Idx → ℕ) (hb : ∀ x, base x + 200 ≤ n)
    (hn : n ≤ 2 ^ 32) (k : ℕ) (idxs : Fin 1 → IVec s 32) (hi : idxs = ![atV (enc base) (mid (padOf B base) k)])
    (h : ∀ c x, (idxs c x).toNat < (⟨1, ![n]⟩ : Shape).size c) :
    Reads (padOf B base) k (loadIdx (F := F) (s := ⟨1, ![n]⟩) (e := .f32) B idxs h) := by
  intro x
  rw [at_eq] at hi
  show isPad (B (idxAt (s := ⟨1, ![n]⟩) idxs h x)) = _
  rw [idxAt_enc _ (fun x => by have := hb x; have := probe_le (window (padOf B base x) k); omega) hn idxs hi]
  rfl

end Rows

end Cert.Search
-- ==== Proof.Windows.lean ====
/-
  A window of `k` consecutive elements of a one-axis array of `n`: which elements it has, what a read of it returns and
  what a write of it leaves.
-/
module

public import proofs.«01_k».proof.Proof.Search
public import Idealize.ShloMosaic.Signature

@[expose] public section

noncomputable section

namespace Cert.Search

open Idealize.ShloMosaic

variable {n k : ℕ} [NeZero n] [NeZero k] {off : Fin 1 → ℕ} (o : ℕ)
  {inb : ∀ a, off a + (⟨1, ![k]⟩ : Shape).size a ≤ (⟨1, ![n]⟩ : Shape).size a}

/-- The window of `k` elements at offset `off`. -/
abbrev win (n k : ℕ) (off : Fin 1 → ℕ) (inb : ∀ a, off a + (⟨1, ![k]⟩ : Shape).size a ≤ (⟨1, ![n]⟩ : Shape).size a) : Rect ⟨1, ![n]⟩ :=
  Rect.unit (s := ⟨1, ![n]⟩) off (⟨1, ![k]⟩ : Shape).size inb

omit [NeZero n] [NeZero k] in
/-- A window inside the vector ends inside it. -/
theorem win_le (ho : off 0 = o) (inb : ∀ a, off a + (⟨1, ![k]⟩ : Shape).size a ≤ (⟨1, ![n]⟩ : Shape).size a) : o + k ≤ n :=
  ho ▸ inb 0

omit [NeZero k] in
/-- Element `x` of the window is element `o + x` of the array. -/
theorem win_emb (ho : off 0 = o) (x : (⟨1, ![k]⟩ : Shape).Idx) : (win n k off inb).emb x = pos n (o + (x (0 : Fin 1)).val) := by
  apply eq_pos
  show off 0 + 1 * (x (0 : Fin 1)).val = _
  rw [ho, Nat.one_mul]

omit [NeZero n] [NeZero k] in
/-- The window's elements. -/
theorem mem_win (ho : off 0 = o) {i : (⟨1, ![n]⟩ : Shape).Idx} :
    i ∈ (win n k off inb).set ↔ o ≤ (i (0 : Fin 1)).val ∧ (i (0 : Fin 1)).val < o + k := by
  rw [Rect.mem_set_unit]
  subst ho
  exact ⟨fun h => h 0, fun h a => by obtain rfl : a = (0 : Fin 1) := Subsingleton.elim (α := Fin 1) _ _; exact h⟩

variable {sig : RefSig} {κ : Kind} {sp : Space} {e : EltTy} {Val : EltTy → Type}

omit [NeZero k] in
/-- A read through the window. -/
theorem read_win (ho : off 0 = o) (v : View sig κ sp ⟨1, ![n]⟩ e) (f : v.ty.Contents Val) (x : (⟨1, ![k]⟩ : Shape).Idx) :
    (v.slice (win n k off inb)).read Val f x = v.read Val f (pos n (o + (x (0 : Fin 1)).val)) := by
  rw [← win_emb (inb := inb) o ho]
  rfl

/-- A write of the whole window: inside it the values written, elsewhere what was there. -/
theorem write_win (ho : off 0 = o) (v : View sig κ sp ⟨1, ![n]⟩ e) (f : v.ty.Contents Val) (w : (⟨1, ![k]⟩ : Shape).Idx → Val e)
    {j : ℕ} (hj : j < n) :
    v.read Val ((v.slice (win n k off inb)).write Val f w Finset.univ) (pos n j)
      = if o ≤ j ∧ j < o + k then w (pos k (j - o)) else v.read Val f (pos n j) := by
  split
  case isTrue h =>
    have hx : pos n j = (win n k off inb).emb (pos k (j - o)) := by
      rw [win_emb (inb := inb) o ho, pos_val (by omega)]
      congr 1; omega
    rw [View.read_apply, hx]
    have := View.write_emb_of_mem (v := v.slice (win n k off inb)) (Val := Val) f w (M := Finset.univ) (x := pos k (j - o)) (Finset.mem_univ _)
    rw [show v.emb ((win n k off inb).emb (pos k (j - o))) = (v.slice (win n k off inb)).emb (pos k (j - o)) from rfl, this]
    simp
  case isFalse h =>
    rw [View.read_apply, View.read_apply, View.write_of_not_mem]
    intro hc
    apply h
    have h1 := View.setOn_subset_set _ _ hc
    rw [View.set_slice, Finset.mem_map] at h1
    obtain ⟨y, hy, he⟩ := h1
    rw [v.emb.injective he, mem_win o ho, pos_val hj] at hy
    exact hy

end Cert.Search
-- ==== Proof.KernelIdeal.Setup.lean ====
/-
  The launch as its theorem sees it, the memrefs of one tile, and what a tile holds: the piece of the flattened input it
  copies in, its row buffer, its lengths buffer, and its pieces of the two results.
-/
module

public import proofs.«01_k».proof.Defs
public import proofs.«01_k».proof.Proof.Gen.KernelIdeal
public import proofs.«01_k».proof.Proof.Gen.KernelIdeal.Skeleton
public import proofs.«01_k».proof.Proof.Windows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts that the launch takes of the program's SparseCore cells. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The resource algebra: the handshakes' rounds beside the transfers' counters -/

abbrev UH : Type := URounds (GSem nD τ sig) ℕ
abbrev UU : Type := UH × Counters

/-- The propositions of this program's logic. -/
abbrev PropT (F : FTy → Type) : Type _ := sProp (MT nD τ sig (HIx 1) (Elt F) ℕ UU ℕ)

abbrev EH : Emb UH (MT nD τ sig (HIx 1) (Elt F) ℕ UU ℕ) := embL

/-! ## One tile -/

section Tile

variable (d : Dev nD) (L : grid0.Coords)

/-- The vector subcore of device `d` at grid coordinates `L`. -/
abbrev thr : Thread nD τ := V d ((L 0).castLE hcore0) ((L 1).castLE hsub0)

/-- The flattened input, the flattened first result, and the lengths, as a tile names them. -/
abbrev xV : Memref sig .scVector .hbm S3276800 .f32 := Memref.whole main_v0_scv
abbrev vV : Memref sig .scVector .hbm S3276800 .f32 := Memref.whole main_v1_0_scv
abbrev lV : Memref sig .scVector .hbm S16384 .i32 := Memref.whole main_v1_1_scv
/-- A tile's row buffer and lengths buffer. -/
abbrev rowV : Memref sig .scVector .vmem S25600 .f32 := Memref.whole cc0_scratch0
abbrev lenV : Memref sig .scVector .vmem S512 .i32 := Memref.whole cc0_scratch1

/-- The row buffer holds `B`. -/
abbrev rowPts (B : S25600.Idx → F .f32) : PropT F := (rowV).view.loc (thr d L) ↦{fullShare} (B : Buf (Elt F) ((rowV).view.loc (thr d L)))
/-- The lengths buffer holds `f`. -/
abbrev lenPts (f : S512.Idx → BitVec 32) : PropT F := (lenV).view.loc (thr d L) ↦{fullShare} (f : Buf (Elt F) ((lenV).view.loc (thr d L)))

variable [FloatOps F]

/-- Running `p` on the tile leads to `Q`. -/
abbrev tileWp {α : Type} (p : Prog (TpuEff nD τ sig (Elt F) Λ₀ (.scVector ((L 0).castLE hcore0) ((L 1).castLE hsub0))) α) (Q : α → PropT F) : PropT F :=
  wp frame (wpE (defs₀ (F := F)) 𝒱₀ (thr d L) none) Set.univ p Q

/-- A program known to return `r`, at the head of a longer one. -/
theorem tile_bind {α β : Type} {p : Prog (TpuEff nD τ sig (Elt F) Λ₀ (.scVector ((L 0).castLE hcore0) ((L 1).castLE hsub0))) α} {A A' : PropT F} {r : α}
    (h : A ⊢ tileWp d L p fun a => iprop(⌜a = r⌝ ∗ A'))
    (k : α → Prog (TpuEff nD τ sig (Elt F) Λ₀ (.scVector ((L 0).castLE hcore0) ((L 1).castLE hsub0))) β) {Q : β → PropT F} :
    A ⊢ iprop((A' -∗ tileWp d L (k r) Q) -∗ tileWp d L (p >>= k) Q) := by
  unfold tileWp at *
  rw [wp_bind]
  iintro HA Hk
  iapply (wp_wand_r Idealize.ShloMosaic.frame (wpE (defs₀ (F := F)) 𝒱₀ (thr d L) none) Set.univ)
  isplitl [HA]
  · iapply h; iexact HA
  iintro %a ⟨%ha, HA'⟩
  subst ha
  iapply Hk; iexact HA'

end Tile

end Cert.Proof.KernelIdeal
-- ==== Proof.KernelIdeal.RowSearch.lean ====
/-
  One pass of the search loop: sixteen rows of the row buffer bisected side by side, eight halvings, each a gather of
  sixteen elements, and the sixteen lengths stored.
-/
module

public import proofs.«01_k».proof.Proof.KernelIdeal.Setup

@[expose] public section

noncomputable section

namespace Cert.Proof.KernelIdeal

open Cert.KernelIdeal Cert.KernelIdeal.Gen Cert.Search

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-- Where row `16 t + x` starts in the row buffer. -/
def base (t : ℕ) (x : S16.Idx) : ℕ := (16 * t + (x (0 : Fin 1)).val) * 200

/-- The lane numbers. -/
abbrev lanes : IVec S16 32 := iota .scVector S16 32 [0] iota_S16_d0_w32_scVector

/-- Every row of a group lies inside the chunk. -/
theorem base_le {t : ℕ} (ht : t < 8) (x : S16.Idx) : base t x + 200 ≤ 25600 := by
  have : (x (0 : Fin 1)).val < 16 := (x (0 : Fin 1)).isLt
  unfold base
  omega

/-- The word vector of the rows' starts. -/
theorem starts_eq (t : Fin k0_t1_loop.trips) : k0_pay1 lanes 0#32 1#32 t = enc (base t.val) := by
  funext x
  show (Scf.iv 0#32 1#32 t.val * 16#32 + BitVec.ofNat 32 (0 * 16 + (x (0 : Fin 1)).val)) * 200#32 = BitVec.ofNat 32 _
  unfold Scf.iv base
  apply BitVec.eq_of_toNat_eq
  simp only [BitVec.toNat_mul, BitVec.toNat_add, BitVec.toNat_ofNat]
  have : (x (0 : Fin 1)).val < 16 := (x (0 : Fin 1)).isLt
  have : t.val < 8 := t.isLt
  omega

/-- A checked gather of the row buffer at the positions the windows look at reads what they look at; the buffer stays. -/
theorem gather_spec {α : Type} {Q : α → PropT F} (B : S25600.Idx → F .f32) (b : S16.Idx → ℕ) (hb : ∀ x, b x + 200 ≤ 25600) (n : ℕ) (w : IVec S16 32)
    (hw : w = atV (enc b) (mid (padOf B b) n)) {P : Prop} {dec : Decidable P}
    (hP : P ↔ ∀ a x, ((![w] : Fin 1 → IVec S16 32) a x).toNat < S25600.size a)
    (k : FVec F S16 .f32 → Prog (TpuEff nD τ sig (Elt F) Λ₀ (.scVector ((L 0).castLE hcore0) ((L 1).castLE hsub0))) α)
    (hk : ∀ u, Reads (padOf B b) n u → rowPts d L B ⊢ tileWp d L (k u) Q) :
    rowPts d L B ⊢ tileWp d L (.op (.assume P dec) fun h =>
      SparseCore.vectorLoadIdx (rowV) ![w] (hP.mp h.down) (View.loads_vmem h_S25600) >>= k) Q := by
  have hin : ∀ a x, ((![w] : Fin 1 → IVec S16 32) a x).toNat < S25600.size a := by
    rw [hw]; exact at_inb b hb (by decide) _ n
  unfold tileWp
  rw [wp_assume_of _ _ _ _ (hP.mpr hin)]
  iintro Hb
  iapply (SparseCore.wp_vectorLoadIdx 𝒱₀ (thr d L) none Set.univ (base := (rowV)) (S := Finset.univ) (q := fullShare) (Finset.subset_univ _)) $$ Hb
  iintro Hb
  iapply (hk _ ?hr) $$ Hb
  case hr =>
    rw [show View.read (Elt F) ((rowV).access (Rect.whole S25600)) B = B from Memref.read_access_whole _ _ _]
    exact reads_loadIdx B b hb (by decide) n _ (by rw [hw]) hin

/-- The end of a part: its result is the one stated, and the buffer is handed back. -/
theorem ret_spec {α : Type} (B : S25600.Idx → F .f32) {r r' : α} (h : r = r') :
    rowPts d L B ⊢ tileWp d L (.ret r) fun a => iprop(⌜a = r'⌝ ∗ rowPts d L B) := by
  unfold tileWp
  rw [wp_ret]
  iintro Hb
  imodintro
  isplitr
  · ipureintro; exact h
  · iexact Hb

abbrev part1 (t : Fin k0_t1_loop.trips) := k0_part1 (F := F) L xV (Memref.isWhole_whole _) vV (Memref.isWhole_whole _) lV (Memref.isWhole_whole _)
  rowV (Memref.isWhole_whole _) lenV (Memref.isWhole_whole _) cc0_scoped0 cc0_scoped1 cc0_scoped2 cc0_scoped3 cc0_scoped4 cc0_scoped5 cc0_scoped6
  cc0_scoped7 cc0_scoped8 lanes 0#32 1#32 t

/-- The first two halvings. -/
theorem part1_spec (t : Fin k0_t1_loop.trips) (B : S25600.Idx → F .f32) :
    rowPts d L B ⊢ tileWp d L (part1 L t) fun r =>
      iprop(⌜r = ⟨Scf.iv 0#32 1#32 t, enc (base t.val), lo (padOf B (base t.val)) 2, hi (padOf B (base t.val)) 2,
        active (padOf B (base t.val)) 2, mid (padOf B (base t.val)) 2, 199#32⟩⌝ ∗ rowPts d L B) := by
  have hb : ∀ x, base t.val x + 200 ≤ 25600 := base_le t.isLt
  unfold part1
  rw [k0_part1_eq_skeleton]; unfold k0_part1_skel
  simp only [Prog.lift, Prog.bind_op, Prog.bind_ret, Prog.pure_eq_ret]
  refine gather_spec d L B _ hb 0 _ ?_ (P := k0_chk1 _) Iff.rfl _ fun u hu => ?_
  · rw [← starts_eq]; rfl
  have l1 := lo_succ hu
  have h1 := hi_succ hu
  refine gather_spec d L B _ hb 1 _ ?_ (P := k0_chk2 _) Iff.rfl _ fun v hv => ?_
  · rw [← starts_eq, mid, ← l1, ← h1]; rfl
  have l2 := lo_succ hv
  have h2 := hi_succ hv
  refine ret_spec d L B ?_
  rw [starts_eq, mid, active, ← l2, ← h2, mid, active, ← l1, ← h1]; rfl

abbrev part2 (b lo hi : IVec S16 32) (a : IVec S16 1) (m : IVec S16 32) (c : BitVec 32) := k0_part2 (F := F) L xV (Memref.isWhole_whole _) vV (Memref.isWhole_whole _) lV (Memref.isWhole_whole _)
  rowV (Memref.isWhole_whole _) lenV (Memref.isWhole_whole _) cc0_scoped0 cc0_scoped1 cc0_scoped2 cc0_scoped3 cc0_scoped4 cc0_scoped5 cc0_scoped6
  cc0_scoped7 cc0_scoped8 b lo hi a m c

/-- The next three halvings. -/
theorem part2_spec (b : S16.Idx → ℕ) (hb : ∀ x, b x + 200 ≤ 25600) (B : S25600.Idx → F .f32) :
    rowPts d L B ⊢ tileWp d L (part2 L (enc b) (lo (padOf B b) 2) (hi (padOf B b) 2) (active (padOf B b) 2) (mid (padOf B b) 2) 199#32) fun r =>
      iprop(⌜r = ⟨lo (padOf B b) 5, hi (padOf B b) 5, active (padOf B b) 5, addi (lo (padOf B b) 5) (hi (padOf B b) 5), 1#32⟩⌝ ∗ rowPts d L B) := by
  unfold part2
  rw [k0_part2_eq_skeleton]; unfold k0_part2_skel
  simp only [Prog.lift, Prog.bind_op, Prog.bind_ret, Prog.pure_eq_ret]
  refine gather_spec d L B _ hb 2 _ rfl (P := k0_chk3 _) Iff.rfl _ fun u hu => ?_
  have l3 := lo_succ hu
  have h3 := hi_succ hu
  refine gather_spec d L B _ hb 3 _ ?_ (P := k0_chk4 _) Iff.rfl _ fun v hv => ?_
  · rw [mid_def _ 3, ← l3, ← h3]; rfl
  have l4 := lo_succ hv
  have h4 := hi_succ hv
  refine gather_spec d L B _ hb 4 _ ?_ (P := k0_chk5 _) Iff.rfl _ fun w hw => ?_
  · rw [mid_def _ 4, ← l4, ← h4, mid_def _ 3, active_def _ 3, ← l3, ← h3]; rfl
  have l5 := lo_succ hw
  have h5 := hi_succ hw
  refine ret_spec d L B ?_
  rw [active_def _ 5, ← l5, ← h5, mid_def _ 4, active_def _ 4, ← l4, ← h4, mid_def _ 3, active_def _ 3, ← l3, ← h3]; rfl

abbrev part3 (b lo hi : IVec S16 32) (a : IVec S16 1) (m : IVec S16 32) (c : BitVec 32) := k0_part3 (F := F) L xV (Memref.isWhole_whole _) vV (Memref.isWhole_whole _) lV (Memref.isWhole_whole _)
  rowV (Memref.isWhole_whole _) lenV (Memref.isWhole_whole _) cc0_scoped0 cc0_scoped1 cc0_scoped2 cc0_scoped3 cc0_scoped4 cc0_scoped5 cc0_scoped6
  cc0_scoped7 cc0_scoped8 b lo hi a m c

/-- The last three halvings. -/
theorem part3_spec (b : S16.Idx → ℕ) (hb : ∀ x, b x + 200 ≤ 25600) (B : S25600.Idx → F .f32) :
    rowPts d L B ⊢ tileWp d L (part3 L (enc b) (lo (padOf B b) 5) (hi (padOf B b) 5) (active (padOf B b) 5)
        (addi (lo (padOf B b) 5) (hi (padOf B b) 5)) 1#32) fun r =>
      iprop(⌜r = lo (padOf B b) 8⌝ ∗ rowPts d L B) := by
  unfold part3
  rw [k0_part3_eq_skeleton]; unfold k0_part3_skel
  simp only [Prog.lift, Prog.bind_op, Prog.bind_ret, Prog.pure_eq_ret]
  refine gather_spec d L B _ hb 5 _ rfl (P := k0_chk6 _) Iff.rfl _ fun u hu => ?_
  have l6 := lo_succ hu
  have h6 := hi_succ hu
  refine gather_spec d L B _ hb 6 _ ?_ (P := k0_chk7 _) Iff.rfl _ fun v hv => ?_
  · rw [mid_def _ 6, ← l6, ← h6]; rfl
  have l7 := lo_succ hv
  have h7 := hi_succ hv
  refine gather_spec d L B _ hb 7 _ ?_ (P := k0_chk8 _) Iff.rfl _ fun w hw => ?_
  · rw [mid_def _ 7, ← l7, ← h7, mid_def _ 6, active_def _ 6, ← l6, ← h6]; rfl
  have l8 := lo_succ hw
  refine ret_spec d L B ?_
  rw [← l8, mid_def _ 7, active_def _ 7, ← l7, ← h7, mid_def _ 6, active_def _ 6, ← l6, ← h6]; rfl

end Cert.Proof.KernelIdeal
-- ==== Proof.KernelIdeal.Loops.lean ====
/-
  The two loops over one chunk of 128 rows in the row buffer: the lengths of its rows, sixteen a pass, into the lengths
  buffer; then every element that is the padding word replaced by zero, sixteen a pass.
-/
module

public import proofs.«01_k».proof.Proof.KernelIdeal.RowSearch

@[expose] public section

noncomputable section

namespace Cert.Proof.KernelIdeal

open Cert.KernelIdeal Cert.KernelIdeal.Gen Cert.Search

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-! ## The lengths -/

/-- The length of row `ρ` of the row buffer, as a word. -/
def rowLen (B : S25600.Idx → F .f32) (ρ : ℕ) : BitVec 32 := BitVec.ofNat 32 (len fun k => isPad (B (pos 25600 (ρ * 200 + k))))

/-- The first `n` words of the lengths buffer are those of `g`. -/
def LenDone (g : ℕ → BitVec 32) (n : ℕ) (f : S512.Idx → BitVec 32) : Prop := ∀ j < n, f (pos 512 j) = g j

/-- One pass of a search loop whose stores start at `off`. -/
abbrev searchBody (off : Fin k0_t1_loop.trips → Fin 1 → ℕ) (hoff : ∀ t a, off t a + S16.size a ≤ S512.size a) :
    Fin k0_t1_loop.trips → BitVec 32 → Prog (TpuEff nD τ sig (Elt F) Λ₀ (.scVector ((L 0).castLE hcore0) ((L 1).castLE hsub0))) (BitVec 32) :=
  fun t _ => do
    let ⟨_, b, l, h, a, m, c⟩ ← part1 L t
    let ⟨l', h', a', m', c'⟩ ← part2 L b l h a m c
    let v : IVec S16 32 ← part3 L b l' h' a' m' c'
    let _ ← Prog.lift (.load lenV (Rect.unit (s := S512) (off t) S16.size (hoff t)).toLoadRect (View.loadsAt_vmem h_S16))
    Prog.lift (.store lenV (Rect.unit (s := S512) (off t) S16.size (hoff t)) v Finset.univ (View.stores_vmem_bits_univ h_S16 rfl) (.inl rfl))
    pure 0#32

/-- What a search loop holds: the chunk's rows, and the lengths found so far. -/
def searchInv (B : S25600.Idx → F .f32) (g : ℕ → BitVec 32) (o : ℕ) (k : ℕ) (_ : BitVec 32) : PropT F :=
  iprop(rowPts d L B ∗ ∃ f, ⌜LenDone g (o + 16 * k) f⌝ ∗ lenPts d L f)

/-- A trip of the search loop writes the lengths of sixteen further rows. -/
theorem searchBody_spec (off : Fin k0_t1_loop.trips → Fin 1 → ℕ) (hoff : ∀ t a, off t a + S16.size a ≤ S512.size a) (o : ℕ)
    (ho : ∀ t, off t 0 = o + 16 * t.val) (B : S25600.Idx → F .f32) (g : ℕ → BitVec 32) (hg : ∀ ρ < 128, g (o + ρ) = rowLen B ρ)
    (t : Fin k0_t1_loop.trips) (a : BitVec 32) :
    searchInv d L B g o t.val a ⊢ tileWp d L (searchBody L off hoff t a) (searchInv d L B g o (t.val + 1)) := by
  have hb : ∀ x, base t.val x + 200 ≤ 25600 := base_le t.isLt
  have ht : t.val < 8 := t.isLt
  unfold searchInv searchBody
  iintro ⟨Hb, %f, %hf, Hl⟩
  iapply (tile_bind d L (part1_spec d L t B) _) $$ Hb
  iintro Hb
  dsimp only
  iapply (tile_bind d L (part2_spec d L _ hb B) _) $$ Hb
  iintro Hb
  dsimp only
  iapply (tile_bind d L (part3_spec d L _ hb B) _) $$ Hb
  iintro Hb
  simp only [Prog.lift, Prog.bind_op, Prog.bind_ret, Prog.pure_eq_ret]
  unfold tileWp
  iapply (wp_load 𝒱₀ (thr d L) none Set.univ (m := lenV) (S := Finset.univ) (Finset.subset_univ _)) $$ Hl
  iintro Hl
  iapply (wp_store 𝒱₀ (thr d L) none Set.univ (m := lenV) (r := Rect.unit (s := S512) (off t) S16.size (hoff t)) (Mk := Finset.univ)
    (S := Finset.univ) (Finset.subset_univ _)) $$ Hl
  iintro Hl
  rw [wp_ret]
  imodintro
  isplitl [Hb]; · iexact Hb
  iexists _
  isplitr
  rotate_left
  · iexact Hl
  ipureintro
  intro j hj
  have hle := win_le (n := 512) (k := 16) _ (ho t) (hoff t)
  refine (write_win (n := 512) (k := 16) (Val := Elt F) (inb := hoff t) _ (ho t) (View.whole cc0_scratch1) f _ (j := j) (by omega)).trans ?_
  split
  case isFalse h => exact hf j (by omega)
  case isTrue h =>
    have hx : ((pos 16 (j - (o + 16 * t.val))) (0 : Fin 1)).val = j - (o + 16 * t.val) := pos_val (by omega) 0
    have hgj := hg (j - o) (by omega)
    rw [show o + (j - o) = j by omega] at hgj
    rw [hgj]
    show BitVec.ofNat 32 (len fun k => isPad (B (pos 25600 (base t.val _ + k)))) = _
    unfold rowLen base
    rw [hx, show 16 * t.val + (j - (o + 16 * t.val)) = j - o by omega]

/-- The first chunk's search loop runs the common body. -/
theorem t1_body_eq : k0_t1_body (F := F) L xV (Memref.isWhole_whole _) vV (Memref.isWhole_whole _) lV (Memref.isWhole_whole _)
    rowV (Memref.isWhole_whole _) lenV (Memref.isWhole_whole _) cc0_scoped0 cc0_scoped1 cc0_scoped2 cc0_scoped3 cc0_scoped4 cc0_scoped5 cc0_scoped6
    cc0_scoped7 cc0_scoped8 lanes = searchBody L k0_off2 k0_off2_inb := rfl
/-- The second chunk's search loop runs the common body. -/
theorem t3_body_eq : k0_t3_body (F := F) L xV (Memref.isWhole_whole _) vV (Memref.isWhole_whole _) lV (Memref.isWhole_whole _)
    rowV (Memref.isWhole_whole _) lenV (Memref.isWhole_whole _) cc0_scoped0 cc0_scoped1 cc0_scoped2 cc0_scoped3 cc0_scoped4 cc0_scoped5 cc0_scoped6
    cc0_scoped7 cc0_scoped8 lanes = searchBody L k0_off4 k0_off4_inb := rfl
/-- The third chunk's search loop runs the common body. -/
theorem t5_body_eq (c : BitVec 32) : k0_t5_body (F := F) L xV (Memref.isWhole_whole _) vV (Memref.isWhole_whole _) lV (Memref.isWhole_whole _)
    rowV (Memref.isWhole_whole _) lenV (Memref.isWhole_whole _) cc0_scoped0 cc0_scoped1 cc0_scoped2 cc0_scoped3 cc0_scoped4 cc0_scoped5 cc0_scoped6
    cc0_scoped7 cc0_scoped8 c lanes = searchBody L k0_off6 k0_off6_inb := rfl
/-- The fourth chunk's search loop runs the common body. -/
theorem t7_body_eq (c : BitVec 32) : k0_t7_body (F := F) L xV (Memref.isWhole_whole _) vV (Memref.isWhole_whole _) lV (Memref.isWhole_whole _)
    rowV (Memref.isWhole_whole _) lenV (Memref.isWhole_whole _) cc0_scoped0 cc0_scoped1 cc0_scoped2 cc0_scoped3 cc0_scoped4 cc0_scoped5 cc0_scoped6
    cc0_scoped7 cc0_scoped8 c lanes = searchBody L k0_off8 k0_off8_inb := rfl

/-! ## The values -/

/-- An element of the first result: zero where the input holds the padding word, the input elsewhere. -/
def unpad (x : F .f32) : F .f32 := Scalar.select (FloatOps.cmpf .oeq x padWord) (Scalar.ofBits .f32 0x00000000#32) x

/-- One pass of the loop that replaces the padding. -/
abbrev unpadBody : Fin k0_t2_loop.trips → BitVec 32 → Prog (TpuEff nD τ sig (Elt F) Λ₀ (.scVector ((L 0).castLE hcore0) ((L 1).castLE hsub0))) (BitVec 32) :=
  k0_t2_body (F := F) L xV (Memref.isWhole_whole _) vV (Memref.isWhole_whole _) lV (Memref.isWhole_whole _)
    rowV (Memref.isWhole_whole _) lenV (Memref.isWhole_whole _) cc0_scoped0 cc0_scoped1 cc0_scoped2 cc0_scoped3 cc0_scoped4 cc0_scoped5 cc0_scoped6
    cc0_scoped7 cc0_scoped8

/-- The row buffer after `k` passes. -/
def unpadded (B : S25600.Idx → F .f32) (k : ℕ) : S25600.Idx → F .f32 :=
  fun i => if (i (0 : Fin 1)).val < 16 * k then unpad (B i) else B i

/-- What the loop holds: the row buffer, its first `16 k` elements replaced. -/
def unpadInv (B : S25600.Idx → F .f32) (k : ℕ) (_ : BitVec 32) : PropT F := rowPts d L (unpadded B k)

/-- A trip of the replacing loop replaces the padding of sixteen further elements by zero. -/
theorem unpadBody_spec (B : S25600.Idx → F .f32) (t : Fin k0_t2_loop.trips) (a : BitVec 32) :
    unpadInv d L B t.val a ⊢ tileWp d L (unpadBody L t a) (unpadInv d L B (t.val + 1)) := by
  have ht : t.val < 1600 := t.isLt
  have ho : k0_off3 t 0 = 16 * t.val := congrFun (k0_off3_eq t) 0
  unfold unpadInv unpadBody k0_t2_body
  simp only [Prog.lift, Prog.bind_op, Prog.bind_ret, Prog.pure_eq_ret]
  iintro Hb
  unfold tileWp
  iapply (wp_load 𝒱₀ (thr d L) none Set.univ (m := rowV) (S := Finset.univ) (Finset.subset_univ _)) $$ Hb
  iintro Hb
  iapply (wp_load 𝒱₀ (thr d L) none Set.univ (m := rowV) (S := Finset.univ) (Finset.subset_univ _)) $$ Hb
  iintro Hb
  iapply (wp_store 𝒱₀ (thr d L) none Set.univ (m := rowV) (r := Rect.unit (s := S25600) (k0_off3 t) S16.size (k0_off3_inb t)) (Mk := Finset.univ)
    (S := Finset.univ) (Finset.subset_univ _)) $$ Hb
  iintro Hb
  rw [wp_ret]
  imodintro
  iapply (Entails.of_eq (pointsTo_congr (g := unpadded B (t.val + 1)) ?_)) $$ Hb
  intro i _
  have hi : (i (0 : Fin 1)).val < 25600 := (i (0 : Fin 1)).isLt
  have hj := pos_eq (n := 25600) i
  generalize (i (0 : Fin 1)).val = j at hi hj
  subst hj
  refine (write_win (n := 25600) (k := 16) (Val := Elt F) (inb := k0_off3_inb t) _ ho (View.whole cc0_scratch0) (unpadded B t.val) _ (j := j) hi).trans ?_
  have hp : ((pos 25600 j) (0 : Fin 1)).val = j := pos_val hi 0
  unfold unpadded
  rw [hp]
  split
  case isTrue h =>
    rw [if_pos (by omega)]
    have hr := read_win (n := 25600) (k := 16) (Val := Elt F) (inb := k0_off3_inb t) _ ho (View.whole cc0_scratch0) (unpadded B t.val) (pos 16 (j - 16 * t.val))
    rw [pos_val (by omega), show 16 * t.val + (j - 16 * t.val) = j by omega] at hr
    have hu : unpadded B t.val (pos 25600 j) = B (pos 25600 j) := by unfold unpadded; rw [hp, if_neg (by omega)]
    refine (congrArg unpad (hr.trans hu) : _)
  case isFalse h =>
    show (if ((pos 25600 j) (0 : Fin 1)).val < 16 * t.val then _ else _) = _
    rw [hp]
    by_cases hc : j < 16 * t.val
    · rw [if_pos hc, if_pos (by omega)]; rfl
    · rw [if_neg hc, if_neg (by omega)]; rfl

end Cert.Proof.KernelIdeal
-- ==== Proof.KernelIdeal.Chunk.lean ====
/-
  One chunk of 128 rows: copied into the row buffer, its lengths found, its padding replaced, and copied out.
-/
module

public import proofs.«01_k».proof.Proof.KernelIdeal.Loops

@[expose] public section

noncomputable section

namespace Cert.Proof.KernelIdeal

open Cert.KernelIdeal Cert.KernelIdeal.Gen Cert.Search

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-- The programs of the tile at `L`. -/
abbrev TileProg (F : FTy → Type) (L : grid0.Coords) (α : Type) : Type _ :=
  Prog (TpuEff nD τ sig (Elt F) Λ₀ (.scVector ((L 0).castLE hcore0) ((L 1).castLE hsub0))) α

/-! ## A copy and its wait -/

/-- A memref of the tile's own, as a transfer's destination. -/
abbrev toHere {sp : Space} {s : Shape} {e : EltTy} (dst : Memref sig .scVector sp s e) :
    DmaTarget nD τ sig (.scVector ((L 0).castLE hcore0) ((L 1).castLE hsub0)) sp s e :=
  .here dst

/-- Copy `src` to `dst`, announced on `s`, and wait for it. -/
def copy {sp sp' : Space} {s : Shape} {e : EltTy} (src : Memref sig .scVector sp s e) (dst : Memref sig .scVector sp' s e) (sm : DmaSems sig S_)
    (hsrc : src.view.WordExact) (hdst : dst.view.WordExact) (ht : DmaTarget.Typed (nD := nD) sp (.dma sm.sem) (toHere L dst)) : TileProg F L PUnit := do
  Prog.lift (.enqueueDma src (toHere L dst) (.dma sm.sem) hsrc hdst ht)
  Prog.lift (.waitDma2 sm.sem src dst hsrc hdst)

/-- What the tile owes, its waits so far recorded beside those of `W`. -/
def owing (O : CellTallies nD τ sig (HIx 1)) (W : Waits sig (HIx 1)) : PropT F :=
  iprop(∃ W', ⌜∀ p ∈ W', p ∈ W ∨ p.2 = none⌝ ∗ owes (thr d L) O W')

/-- Every wait of the tile is allowed. -/
abbrev mayWait (O : CellTallies nD τ sig (HIx 1)) : PropT F := Transfers.MayWaits (thr d L) (none : HIx 1) O

/-- A copy and its wait leave the source as it was and the source's words in the destination. -/
theorem copy_spec {sp sp' : Space} {s : Shape} {e : EltTy} (src : Memref sig .scVector sp s e) (dst : Memref sig .scVector sp' s e) (sm : DmaSems sig S_)
    (hsrc : src.view.WordExact) (hdst : dst.view.WordExact) (ht : DmaTarget.Typed (nD := nD) sp (.dma sm.sem) (toHere L dst)) (hs : 0 < s.numel)
    (fs : Buf (Elt F) (src.view.loc (thr d L))) (fd : Buf (Elt F) (dst.view.loc (thr d L))) (O : CellTallies nD τ sig (HIx 1)) (W : Waits sig (HIx 1))
    {α : Type} (k : PUnit → TileProg F L α) {Q : α → PropT F} :
    iprop(mayWait d L O ∗ (src.view.loc (thr d L) ↦[src.view.set]{fullShare} fs) ∗ (dst.view.loc (thr d L) ↦[dst.view.set]{fullShare} fd)
        ∗ semVal (thr d L, .dma sm.sem) 0 ∗ owing d L O W)
      ⊢ iprop((((src.view.loc (thr d L) ↦[src.view.set]{fullShare} fs)
            ∗ (dst.view.loc (thr d L) ↦[dst.view.set]{fullShare} dst.view.write (Elt F) fd (src.view.read (Elt F) fs) Finset.univ)
            ∗ semVal (thr d L, .dma sm.sem) 0 ∗ owing d L O W) -∗ tileWp d L (k ⟨⟩) Q)
          -∗ tileWp d L (copy L src dst sm hsrc hdst ht >>= k) Q) := by
  unfold owing copy
  simp only [Prog.lift, Prog.bind_op, Prog.bind_ret, Prog.pure_eq_ret]
  iintro ⟨#Hmw, Hs, Hd, Hv, %W', %hW', HO⟩ Hk
  unfold tileWp
  iapply (Transfers.wp_dmaLocal countersEmb 𝒱₀ (thr d L) none (dst := dst) (none : HIx 1) _ rfl (View.amount_pos _ _ hs) (Finset.Subset.refl _)) $$ [Hs Hd Hv]
  · isplitl [Hs]; · iexact Hs
    isplitl [Hd]; · iexact Hd
    iexact Hv
  iintro Hf
  iapply (Transfers.wp_waitLocalO countersEmb 𝒱₀ (thr d L) none (sem := sm.sem) (srcw := src) (dstw := dst) (none : HIx 1) rfl) $$ [Hf HO]
  · isplitl [Hf]; · iexact Hf
    isplitl [HO]; · iexact HO
    iapply (Transfers.MayWaits.elim (.dma sm.sem)); iexact Hmw
  iintro ⟨⟨Hd, Hs⟩, Hv, HO⟩
  iapply Hk
  isplitl [Hs]; · iexact Hs
  isplitl [Hd]; · iexact Hd
  isplitl [Hv]; · iexact Hv
  iexists _
  isplitr
  rotate_left
  · iexact HO
  ipureintro
  intro p hp
  rcases Finset.mem_insert.mp hp with rfl | hp
  · exact .inr rfl
  · exact hW' p hp

/-! ## The chunk -/

/-- Chunk `r` of the tile's rows: where it starts in the flattened arrays. -/
def chunkAt (r : Fin 4) : ℕ := 204800 * (L 1).val + 102400 * (L 0).val + 25600 * r.val

/-- Where chunk `r` of a tile starts. -/
theorem chunkAt_eq (r : Fin 4) : k0_off1 L (BitVec.ofNat 32 (25600 * r.val)) 0 = chunkAt L r := by
  rw [k0_off1_eq]; rfl

/-- The chunk, of the flattened input and of the flattened first result. -/
abbrev xSlice (r : Fin 4) : Memref sig .scVector .hbm S25600 .f32 :=
  xV.slice (Rect.unit (s := S3276800) (k0_off1 L (BitVec.ofNat 32 (25600 * r.val))) S25600.size (k0_off1_inb L r)) (fun _ => rfl)
abbrev vSlice (r : Fin 4) : Memref sig .scVector .hbm S25600 .f32 :=
  vV.slice (Rect.unit (s := S3276800) (k0_off1 L (BitVec.ofNat 32 (25600 * r.val))) S25600.size (k0_off1_inb L r)) (fun _ => rfl)

/-- The chunk's elements of the flattened input hold those of `X`; of the flattened first result, those of `Y`. -/
abbrev xPts (X : S3276800.Idx → F .f32) (r : Fin 4) : PropT F :=
  (xSlice L r).view.loc (thr d L) ↦[(xSlice L r).view.set]{fullShare} (X : Buf (Elt F) ((xSlice L r).view.loc (thr d L)))
abbrev vPts (Y : S3276800.Idx → F .f32) (r : Fin 4) : PropT F :=
  (vSlice L r).view.loc (thr d L) ↦[(vSlice L r).view.set]{fullShare} (Y : Buf (Elt F) ((vSlice L r).view.loc (thr d L)))

/-- The flattened first result of the flattened input `X`. -/
def valsOf (X : S3276800.Idx → F .f32) : S3276800.Idx → F .f32 := fun i => unpad (X i)

/-- The length of row `ρ` of the flattened input `X`, as a word. -/
def lenOf (X : S3276800.Idx → F .f32) (ρ : ℕ) : BitVec 32 := BitVec.ofNat 32 (len fun k => isPad (X (pos 3276800 (ρ * 200 + k))))

/-- The tile's first row. -/
def rowAt : ℕ := 1024 * (L 1).val + 512 * (L 0).val

/-- The chunk as a row buffer. -/
def chunkOf (X : S3276800.Idx → F .f32) (r : Fin 4) : S25600.Idx → F .f32 := fun i => X (pos 3276800 (chunkAt L r + (i (0 : Fin 1)).val))

/-- The lengths of the chunk's rows are lengths of the input's rows. -/
theorem rowLen_chunk (X : S3276800.Idx → F .f32) (r : Fin 4) {ρ : ℕ} (h : ρ < 128) :
    lenOf X (rowAt L + (128 * r.val + ρ)) = rowLen (chunkOf L X r) ρ := by
  unfold lenOf rowLen
  refine congrArg (BitVec.ofNat 32) (len_congr fun k hk => ?_)
  refine congrArg (fun i => isPad (X (pos 3276800 i))) ?_
  rw [pos_val (by omega)]
  unfold rowAt chunkAt
  omega

/-- One chunk: copied in, searched, its padding replaced, copied out. -/
def chunk (r : Fin 4) (off : Fin k0_t1_loop.trips → Fin 1 → ℕ) (hoff : ∀ t a, off t a + S16.size a ≤ S512.size a) (s₁ s₂ : DmaSems sig S_) : TileProg F L PUnit := do
  copy L (xSlice L r) rowV s₁ (View.wordExact_bits rfl) (Memref.isWhole_whole cc0_scratch0).wordExact ⟨Or.inl rfl, trivial⟩
  let _ ← Scf.Loop.for k0_t1_loop k0_t1_ok 0#32 (searchBody L off hoff)
  let _ ← Scf.Loop.for k0_t2_loop k0_t2_ok 0#32 (unpadBody L)
  copy L rowV (vSlice L r) s₂ (Memref.isWhole_whole cc0_scratch0).wordExact (View.wordExact_bits rfl) ⟨Or.inl rfl, trivial⟩

/-- The tile's rows of the lengths. -/
abbrev lSlice : Memref sig .scVector .hbm S512 .i32 :=
  lV.slice (Rect.unit (s := S16384) (k0_off10 L) S512.size (k0_off10_inb L)) (fun _ => rfl)

abbrev kernel : TileProg F L PUnit :=
  cc0__dense_to_ragged L xV (Memref.isWhole_whole _) vV (Memref.isWhole_whole _) lV (Memref.isWhole_whole _)
    rowV (Memref.isWhole_whole _) lenV (Memref.isWhole_whole _) cc0_scoped0 cc0_scoped1 cc0_scoped2 cc0_scoped3 cc0_scoped4 cc0_scoped5 cc0_scoped6
    cc0_scoped7 cc0_scoped8

/-- The kernel is its four chunks, and the copy of the lengths. -/
theorem kernel_eq : kernel (F := F) L = (do
    chunk L 0 k0_off2 k0_off2_inb cc0_scoped0 cc0_scoped1
    chunk L 1 k0_off4 k0_off4_inb cc0_scoped2 cc0_scoped3
    chunk L 2 k0_off6 k0_off6_inb cc0_scoped4 cc0_scoped5
    chunk L 3 k0_off8 k0_off8_inb cc0_scoped6 cc0_scoped7
    copy L lenV (lSlice L) cc0_scoped8 (Memref.isWhole_whole cc0_scratch1).wordExact (View.wordExact_bits rfl) ⟨Or.inl rfl, trivial⟩
    pure ⟨⟩) := by
  unfold kernel
  rw [cc0__dense_to_ragged_eq_skeleton]
  unfold cc0__dense_to_ragged_skel chunk copy
  rw [k0_part13_eq_skeleton, k0_part14_eq_skeleton]
  unfold k0_part13_skel k0_part14_skel
  simp only [bind_assoc, pure_bind]
  repeat refine congr (congrArg _ (by rfl)) (funext fun _ => ?_)
  rfl

/-! ## What a chunk does -/

/-- Chunk `r` of a tile ends inside the array. -/
theorem chunkAt_le (r : Fin 4) : chunkAt L r + 25600 ≤ 3276800 := win_le (n := 3276800) (k := 25600) _ (chunkAt_eq L r) (k0_off1_inb L r)

/-- The chunk buffer is held whole. -/
theorem row_set : rowV.view.set = Finset.univ := View.set_whole _

/-- Before the first trip nothing has been replaced. -/
theorem unpadded_zero (B : S25600.Idx → F .f32) : unpadded B 0 = B := funext fun _ => if_neg (Nat.not_lt_zero _)

/-- Copied in, the row buffer holds the chunk. -/
theorem copied_in (X : S3276800.Idx → F .f32) (B : S25600.Idx → F .f32) (r : Fin 4) :
    rowV.view.write (Elt F) B ((xSlice L r).view.read (Elt F) X) Finset.univ = chunkOf L X r := by
  refine (View.write_whole_univ _ _ _).trans (funext fun i => ?_)
  exact read_win (n := 3276800) (k := 25600) (Val := Elt F) (inb := k0_off1_inb L r) _ (chunkAt_eq L r) (View.whole main_v0_scv) X i

/-- Copied out, the chunk's elements of the first result are those of `valsOf X`. -/
theorem copied_out (X fv : S3276800.Idx → F .f32) (r : Fin 4) (i : S3276800.Idx) (hi : i ∈ (vSlice L r).view.set) :
    (vSlice L r).view.write (Elt F) fv (rowV.view.read (Elt F) (unpadded (chunkOf L X r) 1600)) Finset.univ i = valsOf X i := by
  have hm := (mem_win (n := 3276800) (k := 25600) (inb := k0_off1_inb L r) _ (chunkAt_eq L r)).mp (by rw [View.set_slice_whole] at hi; exact hi)
  have hl : (i (0 : Fin 1)).val < 3276800 := (i (0 : Fin 1)).isLt
  have hj := pos_eq (n := 3276800) i
  generalize (i (0 : Fin 1)).val = j at hm hl hj
  subst hj
  have hw := (write_win (n := 3276800) (k := 25600) (Val := Elt F) (inb := k0_off1_inb L r) _ (chunkAt_eq L r) (View.whole main_v1_0_scv) fv
    (rowV.view.read (Elt F) (unpadded (chunkOf L X r) 1600)) (j := j) hl)
  rw [if_pos hm, View.read_whole] at hw
  refine hw.trans ?_
  have hp : ((pos 25600 (j - chunkAt L r)) (0 : Fin 1)).val = j - chunkAt L r := pos_val (by omega) 0
  show (if ((pos 25600 (j - chunkAt L r)) (0 : Fin 1)).val < 16 * 1600 then unpad (chunkOf L X r (pos 25600 (j - chunkAt L r))) else _) = _
  unfold chunkOf valsOf
  rw [hp, if_pos (by omega), show chunkAt L r + (j - chunkAt L r) = j by omega]

/-- The first `n` of the tile's lengths are found. -/
abbrev lenFound (X : S3276800.Idx → F .f32) (n : ℕ) : PropT F :=
  iprop(∃ f, ⌜LenDone (fun j => lenOf X (rowAt L + j)) n f⌝ ∗ lenPts d L f)

/-- A chunk's run reads its part of the input, leaves the values of that part, and writes the lengths of its 128 rows. -/
theorem chunk_spec (r : Fin 4) (off : Fin k0_t1_loop.trips → Fin 1 → ℕ) (hoff : ∀ t a, off t a + S16.size a ≤ S512.size a)
    (ho : ∀ t, off t 0 = 128 * r.val + 16 * t.val) (s₁ s₂ : DmaSems sig S_)
    (X fv : S3276800.Idx → F .f32) (O : CellTallies nD τ sig (HIx 1)) (W : Waits sig (HIx 1))
    {α : Type} (k : PUnit → TileProg F L α) {Q : α → PropT F} :
    iprop(mayWait d L O ∗ xPts d L X r ∗ vPts d L fv r ∗ (∃ B, rowPts d L B) ∗ lenFound d L X (128 * r.val)
        ∗ semVal (thr d L, .dma s₁.sem) 0 ∗ semVal (thr d L, .dma s₂.sem) 0 ∗ owing d L O W)
      ⊢ iprop(((xPts d L X r ∗ vPts d L (valsOf X) r ∗ (∃ B, rowPts d L B) ∗ lenFound d L X (128 * r.val + 128)
            ∗ semVal (thr d L, .dma s₁.sem) 0 ∗ semVal (thr d L, .dma s₂.sem) 0 ∗ owing d L O W) -∗ tileWp d L (k ⟨⟩) Q)
          -∗ tileWp d L (chunk L r off hoff s₁ s₂ >>= k) Q) := by
  unfold chunk lenFound
  simp only [bind_assoc]
  iintro ⟨#Hmw, Hx, Hv, ⟨%B, Hb⟩, ⟨%f, %hf, Hl⟩, Hs1, Hs2, HO⟩ Hk
  iapply (copy_spec d L (xSlice L r) rowV s₁ _ _ _ (by decide) X B O W) $$ [Hx Hb Hs1 HO]
  · isplitr; · iexact Hmw
    isplitl [Hx]; · iexact Hx
    isplitl [Hb]
    · rw [row_set]; iexact Hb
    isplitl [Hs1]; · iexact Hs1
    iexact HO
  rw [copied_in]
  iintro ⟨Hx, Hb, Hs1, HO⟩
  unfold tileWp
  iapply (Scf.wp_for_bind frame (wpE (defs₀ (F := F)) 𝒱₀ (thr d L) none) Set.univ _ _ _ k0_t1_ok 0#32 (searchBody L off hoff)
    (searchInv d L (chunkOf L X r) (fun j => lenOf X (rowAt L + j)) (128 * r.val))
    (searchBody_spec d L off hoff (128 * r.val) ho (chunkOf L X r) _ fun ρ h => rowLen_chunk L X r h)) $$ [Hb Hl]
  · unfold searchInv
    isplitl [Hb]
    · rw [row_set]; iexact Hb
    iexists f
    isplitr
    · ipureintro; exact hf
    · iexact Hl
  unfold searchInv
  iintro %a1 ⟨Hb, %f', %hf', Hl⟩
  iapply (Scf.wp_for_bind frame (wpE (defs₀ (F := F)) 𝒱₀ (thr d L) none) Set.univ _ _ _ k0_t2_ok 0#32 (unpadBody L)
    (unpadInv d L (chunkOf L X r)) (unpadBody_spec d L (chunkOf L X r))) $$ [Hb]
  · unfold unpadInv
    rw [unpadded_zero]; iexact Hb
  unfold unpadInv
  iintro %a2 Hb
  iapply (copy_spec d L rowV (vSlice L r) s₂ _ _ _ (by decide) (unpadded (chunkOf L X r) 1600) fv O W) $$ [Hv Hb Hs2 HO]
  · isplitr; · iexact Hmw
    isplitl [Hb]
    · rw [row_set]; iexact Hb
    isplitl [Hv]; · iexact Hv
    isplitl [Hs2]; · iexact Hs2
    iexact HO
  iintro ⟨Hb, Hv, Hs2, HO⟩
  iapply Hk
  isplitl [Hx]; · iexact Hx
  isplitl [Hv]
  · iapply (Entails.of_eq (pointsTo_congr (g := valsOf X) ?_)) $$ Hv
    exact fun i hi => copied_out L X fv r i hi
  isplitl [Hb]
  · iexists (unpadded (chunkOf L X r) 1600)
    rw [row_set]; iexact Hb
  isplitl [Hl]
  · iexists f'
    isplitr
    · ipureintro; exact hf'
    · iexact Hl
  isplitl [Hs1]; · iexact Hs1
  isplitl [Hs2]; · iexact Hs2
  iexact HO

end Cert.Proof.KernelIdeal
-- ==== Proof.KernelIdeal.Tile.lean ====
/-
  One tile: four chunks, and the copy of the lengths found. From its pieces of the three arrays to the same pieces, those
  of the two results holding the results.
-/
module

public import proofs.«01_k».proof.Proof.KernelIdeal.Chunk

@[expose] public section

noncomputable section

namespace Cert.Proof.KernelIdeal

open Cert.KernelIdeal Cert.KernelIdeal.Gen Cert.Search

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (L : grid0.Coords)

/-! ## The lengths of the tile's rows -/

/-- The second result of the flattened input `X`. -/
def lensOf (X : S3276800.Idx → F .f32) : S16384.Idx → BitVec 32 := fun i => lenOf X (i (0 : Fin 1)).val

/-- The first row of a tile. -/
theorem rowAt_eq : k0_off10 L 0 = rowAt L := by rw [k0_off10_eq]; rfl

/-- The tile's elements of the second result are those of `f`. -/
abbrev lPts (f : S16384.Idx → BitVec 32) : PropT F :=
  (lSlice L).view.loc (thr d L) ↦[(lSlice L).view.set]{fullShare} (f : Buf (Elt F) ((lSlice L).view.loc (thr d L)))

/-- The buffer of lengths is held whole. -/
theorem len_set : lenV.view.set = Finset.univ := View.set_whole _

/-- Copied out, the tile's elements of the second result are those of `lensOf X`. -/
theorem lens_out (X : S3276800.Idx → F .f32) (fl : S16384.Idx → BitVec 32) (f : S512.Idx → BitVec 32)
    (hf : LenDone (fun j => lenOf X (rowAt L + j)) 512 f) (i : S16384.Idx) (hi : i ∈ (lSlice L).view.set) :
    (lSlice L).view.write (Elt F) fl (lenV.view.read (Elt F) f) Finset.univ i = lensOf X i := by
  have hm := (mem_win (n := 16384) (k := 512) (inb := k0_off10_inb L) _ (rowAt_eq L)).mp (by rw [View.set_slice_whole] at hi; exact hi)
  have hl : (i (0 : Fin 1)).val < 16384 := (i (0 : Fin 1)).isLt
  have hj := pos_eq (n := 16384) i
  unfold lensOf
  generalize (i (0 : Fin 1)).val = j at hm hl hj
  subst hj
  have hw := (write_win (n := 16384) (k := 512) (Val := Elt F) (inb := k0_off10_inb L) _ (rowAt_eq L) (View.whole main_v1_1_scv) fl
    (lenV.view.read (Elt F) f) (j := j) hl)
  rw [if_pos hm, View.read_whole] at hw
  refine hw.trans ?_
  refine (hf (j - rowAt L) (by omega)).trans ?_
  show lenOf X (rowAt L + (j - rowAt L)) = _
  rw [show rowAt L + (j - rowAt L) = j by omega]

/-! ## What a tile owns -/

/-- The tile's nine transfer semaphores, as cells. -/
def dmaCell (i : Fin 9) : GSem nD τ sig := (thr d L, .dma i)

omit [FloatOps F] in
/-- A tile's own semaphores are its nine copy semaphores and others that it never touches. -/
theorem ownSems0_eq : (ownSems0 (thr d L) : PropT F) = iprop((bigSep Finset.univ fun i => semVal (dmaCell d L i) 0)
    ∗ bigSep (ownCells (thr d L) \ Finset.univ.image (dmaCell d L)) fun g => semVal g 0) := by
  have hi : Set.InjOn (dmaCell d L) ((Finset.univ : Finset (Fin 9)) : Set (Fin 9)) := fun a _ b _ e => SemLoc.dma.inj (Prod.mk.inj e).2
  unfold SparseCore.Cfg.ownSems0
  rw [SparseCore.bigSep_sdiff_split' (t := Finset.univ.image (dmaCell d L)), SparseCore.bigSep_image_of_injOn hi]
  intro g hg
  obtain ⟨i, -, rfl⟩ := Finset.mem_image.mp hg
  exact mem_ownCells.mpr ⟨rfl, by show (SemLoc.dma i : SemLoc sig).isScoped .scVector = true; clear hg; revert i; decide⟩

/-- A buffer of the tile's own, as the device names it. -/
abbrev tileRef (b : Ref sig .scVector) : DevRef τ sig := (thr d L).2.devRef b

omit [FloatOps F] in
/-- A tile's own buffers are the chunk buffer, the buffer of lengths, and others that it never touches. -/
theorem ownBufs_eq : (ownBufs (thr d L) : PropT F) = iprop((∃ B, rowPts d L B) ∗ (∃ f, lenPts d L f)
    ∗ bigSep (((ownRefs (τ := τ) (thr d L).2).erase (tileRef d L cc0_scratch0)).erase (tileRef d L cc0_scratch1))
        fun b => iprop(∃ f, ((d, b) : Loc nD τ sig) ↦{fullShare} f)) := by
  unfold SparseCore.Cfg.ownBufs
  refine (SparseCore.bigSep_erase' (SparseCore.Cfg.mem_ownRefs_of_owner (p := (thr d L).2) (b := tileRef d L cc0_scratch0) rfl)).trans ?_
  rw [SparseCore.bigSep_erase' (Finset.mem_erase.mpr
    ⟨fun e => absurd (Proc.devRef_injective _ e) (show (cc0_scratch1 : Ref sig .scVector) ≠ cc0_scratch0 by decide),
      SparseCore.Cfg.mem_ownRefs_of_owner (p := (thr d L).2) (b := tileRef d L cc0_scratch1) rfl⟩)]
  rfl

/-! ## The tile's run -/

/-- The tile's pieces of the arrays: the flattened input holds `X`, the two results `Y` and `f`. -/
def tilePts (X Y : S3276800.Idx → F .f32) (f : S16384.Idx → BitVec 32) : PropT F :=
  iprop((bigSep Finset.univ fun r => xPts d L X r) ∗ (bigSep Finset.univ fun r => vPts d L Y r) ∗ lPts d L f)

omit [FloatOps F] in
/-- A conjunction over four chunks, written out. -/
theorem fin4 (Φ : Fin 4 → PropT F) : bigSep Finset.univ Φ = iprop(Φ 0 ∗ Φ 1 ∗ Φ 2 ∗ Φ 3) :=
  bigSep_univ_eq_bigSepL [0, 1, 2, 3] (by decide) (by decide) Φ

/-- A semaphore of the tile's, as the kernel names it, at zero. -/
abbrev atZero (sm : DmaSems sig S_) : PropT F := semVal (thr d L, .dma sm.sem) 0

omit [FloatOps F] in
/-- The nine copy semaphores, written out. -/
theorem dmas_eq : (bigSep Finset.univ fun i => semVal (dmaCell d L i) 0 : PropT F) = iprop(atZero d L cc0_scoped0 ∗ atZero d L cc0_scoped1
    ∗ atZero d L cc0_scoped2 ∗ atZero d L cc0_scoped3 ∗ atZero d L cc0_scoped4 ∗ atZero d L cc0_scoped5 ∗ atZero d L cc0_scoped6
    ∗ atZero d L cc0_scoped7 ∗ atZero d L cc0_scoped8) :=
  bigSep_univ_eq_bigSepL [0, 1, 2, 3, 4, 5, 6, 7, 8] (by decide) (by decide) _

/-- A tile's run leaves the values of its four chunks and the lengths of its 512 rows. -/
theorem tile_body (hF : (K (F := F)).Facts) (X fv : S3276800.Idx → F .f32) (fl : S16384.Idx → BitVec 32)
    (O : CellTallies nD τ sig (HIx 1)) (W : Waits sig (HIx 1)) (hO : ∀ g, O g none = 0) :
    iprop(levAts (K (F := F)).L (K (F := F)).lev ∗ emp ∗ tilePts d L X fv fl
        ∗ scopedBufs (thr d L) ∗ scopedSems0 (thr d L) ∗ owes (thr d L) O W)
      ⊢ tileWp d L (kernel L) fun _ => iprop(tilePts d L X (valsOf X) (lensOf X) ∗ scopedBufs (thr d L) ∗ scopedSems0 (thr d L) ∗ owing d L O W) := by
  rw [(K (F := F)).scopedBufs_V hF d _ _, SparseCore.Cfg.scopedSems0_V (Val := Elt F) d _ _, ownSems0_eq, ownBufs_eq, dmas_eq, kernel_eq]
  unfold tilePts
  rw [fin4, fin4, fin4]
  iintro ⟨#Hlv, -, ⟨⟨X0, X1, X2, X3⟩, ⟨V0, V1, V2, V3⟩, Hl⟩, ⟨HB, ⟨%f, Hf⟩, Hbufs⟩, ⟨⟨S0, S1, S2, S3, S4, S5, S6, S7, S8⟩, Hsems⟩, HO⟩
  ihave #Hmw := ((K (F := F)).mayWaits_none (thr := thr d L) hO) $$ Hlv
  ihave HL : lenFound d L X 0 $$ [Hf]
  · iexists f
    isplitr
    · ipureintro; exact fun j hj => absurd hj (Nat.not_lt_zero j)
    · iexact Hf
  ihave HO : owing d L O W $$ [HO]
  · unfold owing
    iexists W
    isplitr
    · ipureintro; exact fun p hp => .inl hp
    · iexact HO
  iapply (chunk_spec d L 0 k0_off2 k0_off2_inb (fun t => (congrFun (k0_off2_eq t) 0).trans (by show 16 * t.val = 128 * 0 + 16 * t.val; omega)) cc0_scoped0 cc0_scoped1 X fv O W) $$ [X0 V0 HB HL S0 S1 HO]
  · iframe ∗ #
  iintro ⟨X0, V0, HB, HL, S0, S1, HO⟩
  iapply (chunk_spec d L 1 k0_off4 k0_off4_inb (fun t => (congrFun (k0_off4_eq t) 0).trans (by show 16 * t.val + 128 = 128 * 1 + 16 * t.val; omega)) cc0_scoped2 cc0_scoped3 X fv O W) $$ [X1 V1 HB HL S2 S3 HO]
  · iframe ∗ #
  iintro ⟨X1, V1, HB, HL, S2, S3, HO⟩
  iapply (chunk_spec d L 2 k0_off6 k0_off6_inb (fun t => (congrFun (k0_off6_eq t) 0).trans (by show 16 * t.val + 256 = 128 * 2 + 16 * t.val; omega)) cc0_scoped4 cc0_scoped5 X fv O W) $$ [X2 V2 HB HL S4 S5 HO]
  · iframe ∗ #
  iintro ⟨X2, V2, HB, HL, S4, S5, HO⟩
  iapply (chunk_spec d L 3 k0_off8 k0_off8_inb (fun t => (congrFun (k0_off8_eq t) 0).trans (by show 16 * t.val + 384 = 128 * 3 + 16 * t.val; omega)) cc0_scoped6 cc0_scoped7 X fv O W) $$ [X3 V3 HB HL S6 S7 HO]
  · iframe ∗ #
  iintro ⟨X3, V3, HB, HL, S6, S7, HO⟩
  icases HL with ⟨%g, %hg, Hf⟩
  iapply (copy_spec d L lenV (lSlice L) cc0_scoped8 _ _ _ (by decide) g fl O W) $$ [Hf Hl S8 HO]
  · rw [len_set]
    iframe ∗ #
  iintro ⟨Hf, Hl, S8, HO⟩
  unfold tileWp
  rw [Prog.pure_eq_ret, wp_ret]
  imodintro
  iframe
  isplitl [Hl]
  · iapply (Entails.of_eq (pointsTo_congr (g := lensOf X) ?_)) $$ Hl
    exact fun i hi => lens_out L X fl g hg i hi
  · iexists g
    rw [len_set]; iexact Hf

end Cert.Proof.KernelIdeal
-- ==== Proof.KernelIdeal.Arrays.lean ====
/-
  The tiles' pieces are the arrays: the chunks of the 32 tiles cover the two flattened arrays, each element once, and the
  tiles' rows cover the lengths.
-/
module

public import proofs.«01_k».proof.Proof.KernelIdeal.Tile

@[expose] public section

noncomputable section

namespace Cert.Proof.KernelIdeal

open Cert.KernelIdeal Cert.KernelIdeal.Gen Cert.Search

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD)

/-- The tile on SparseCore `c`, vector subcore `i`. -/
def tileAt (c : Fin (grid0.bound 0)) (i : Fin (grid0.bound 1)) : grid0.Coords :=
  fun | 0 => c | 1 => i | ⟨_ + 2, h⟩ => absurd h (Nat.not_lt.2 (Nat.le_add_left _ _))

/-- The chunks, by SparseCore, vector subcore and number; and the tiles. -/
abbrev Chunks : Type := Fin (grid0.bound 0) × Fin (grid0.bound 1) × Fin 4
abbrev Tiles : Type := Fin (grid0.bound 0) × Fin (grid0.bound 1)

/-- The elements of a chunk, and of a tile's lengths. -/
def chunkSet (p : Chunks) : Finset S3276800.Idx :=
  (win 3276800 25600 (k0_off1 (tileAt p.1 p.2.1) (BitVec.ofNat 32 (25600 * p.2.2.val))) (k0_off1_inb (tileAt p.1 p.2.1) p.2.2)).set
def rowSet (p : Tiles) : Finset S16384.Idx := (win 16384 512 (k0_off10 (tileAt p.1 p.2)) (k0_off10_inb (tileAt p.1 p.2))).set

/-- Which elements of the flattened input a chunk holds. -/
theorem mem_chunkSet (p : Chunks) (i : S3276800.Idx) :
    i ∈ chunkSet p ↔ 25600 * (8 * p.2.1.val + 4 * p.1.val + p.2.2.val) ≤ (i (0 : Fin 1)).val
      ∧ (i (0 : Fin 1)).val < 25600 * (8 * p.2.1.val + 4 * p.1.val + p.2.2.val) + 25600 := by
  have h := mem_win (n := 3276800) (k := 25600) (inb := k0_off1_inb (tileAt p.1 p.2.1) p.2.2) _ (chunkAt_eq (tileAt p.1 p.2.1) p.2.2) (i := i)
  rw [show chunkAt (tileAt p.1 p.2.1) p.2.2 = 25600 * (8 * p.2.1.val + 4 * p.1.val + p.2.2.val) by
    show 204800 * p.2.1.val + 102400 * p.1.val + 25600 * p.2.2.val = _; omega] at h
  exact h

/-- Which row lengths a tile holds. -/
theorem mem_rowSet (p : Tiles) (i : S16384.Idx) :
    i ∈ rowSet p ↔ 512 * (2 * p.2.val + p.1.val) ≤ (i (0 : Fin 1)).val ∧ (i (0 : Fin 1)).val < 512 * (2 * p.2.val + p.1.val) + 512 := by
  have h := mem_win (n := 16384) (k := 512) (inb := k0_off10_inb (tileAt p.1 p.2)) _ (rowAt_eq (tileAt p.1 p.2)) (i := i)
  rw [show rowAt (tileAt p.1 p.2) = 512 * (2 * p.2.val + p.1.val) by show 1024 * p.2.val + 512 * p.1.val = _; omega] at h
  exact h

/-- Two chunks have no element in common. -/
theorem chunks_disjoint : ∀ p ∈ (Finset.univ : Finset Chunks), ∀ q ∈ (Finset.univ : Finset Chunks), p ≠ q → Disjoint (chunkSet p) (chunkSet q) := by
  rintro ⟨⟨c, hc⟩, ⟨i, hi⟩, ⟨r, hr⟩⟩ - ⟨⟨c', hc'⟩, ⟨i', hi'⟩, ⟨r', hr'⟩⟩ - hne
  replace hc : c < 2 := hc
  replace hc' : c' < 2 := hc'
  refine Finset.disjoint_left.mpr fun x h h' => hne ?_
  rw [mem_chunkSet] at h h'
  dsimp only at h h'
  obtain ⟨rfl, rfl, rfl⟩ : c = c' ∧ i = i' ∧ r = r' := by omega
  rfl

/-- The chunks together are the whole array. -/
theorem chunks_cover : (Finset.univ : Finset Chunks).biUnion chunkSet = Finset.univ := by
  refine Finset.eq_univ_iff_forall.mpr fun x => Finset.mem_biUnion.mpr ?_
  have hx : (x (0 : Fin 1)).val < 3276800 := (x (0 : Fin 1)).isLt
  refine ⟨⟨⟨(x (0 : Fin 1)).val / 102400 % 2, by show _ < 2; omega⟩, ⟨(x (0 : Fin 1)).val / 204800, by show _ < 16; omega⟩,
    ⟨(x (0 : Fin 1)).val / 25600 % 4, by omega⟩⟩, Finset.mem_univ _, ?_⟩
  rw [mem_chunkSet]
  dsimp only
  omega

/-- Two tiles have no row in common. -/
theorem rows_disjoint : ∀ p ∈ (Finset.univ : Finset Tiles), ∀ q ∈ (Finset.univ : Finset Tiles), p ≠ q → Disjoint (rowSet p) (rowSet q) := by
  rintro ⟨⟨c, hc⟩, ⟨i, hi⟩⟩ - ⟨⟨c', hc'⟩, ⟨i', hi'⟩⟩ - hne
  replace hc : c < 2 := hc
  replace hc' : c' < 2 := hc'
  refine Finset.disjoint_left.mpr fun x h h' => hne ?_
  rw [mem_rowSet] at h h'
  dsimp only at h h'
  obtain ⟨rfl, rfl⟩ : c = c' ∧ i = i' := by omega
  rfl

/-- The tiles' rows together are all the rows. -/
theorem rows_cover : (Finset.univ : Finset Tiles).biUnion rowSet = Finset.univ := by
  refine Finset.eq_univ_iff_forall.mpr fun x => Finset.mem_biUnion.mpr ?_
  have hx : (x (0 : Fin 1)).val < 16384 := (x (0 : Fin 1)).isLt
  refine ⟨⟨⟨(x (0 : Fin 1)).val / 512 % 2, by show _ < 2; omega⟩, ⟨(x (0 : Fin 1)).val / 1024, by show _ < 16; omega⟩⟩, Finset.mem_univ _, ?_⟩
  rw [mem_rowSet]
  dsimp only
  omega

/-! ## The arrays, as the TensorCore names them -/

abbrev xLoc : Loc nD τ sig := (SparseCore.T d).loc main_v0
abbrev vLoc : Loc nD τ sig := (SparseCore.T d).loc main_v1_0
abbrev lLoc : Loc nD τ sig := (SparseCore.T d).loc main_v1_1

/-- A chunk of the input, as the tile names it and as the device does. -/
theorem xPts_eq (p : Chunks) (X : S3276800.Idx → F .f32) :
    xPts d (tileAt p.1 p.2.1) X p.2.2 = (xLoc d ↦[chunkSet p]{fullShare} (X : Buf (Elt F) (xLoc d)) : PropT F) :=
  congrArg (fun I : Finset S3276800.Idx => (xLoc d ↦[I]{fullShare} (X : Buf (Elt F) (xLoc d)) : PropT F)) (View.set_slice_whole _ _)

/-- A chunk of the values, as the tile names it and as the device does. -/
theorem vPts_eq (p : Chunks) (Y : S3276800.Idx → F .f32) :
    vPts d (tileAt p.1 p.2.1) Y p.2.2 = (vLoc d ↦[chunkSet p]{fullShare} (Y : Buf (Elt F) (vLoc d)) : PropT F) :=
  congrArg (fun I : Finset S3276800.Idx => (vLoc d ↦[I]{fullShare} (Y : Buf (Elt F) (vLoc d)) : PropT F)) (View.set_slice_whole _ _)

/-- A tile's row lengths, as the tile names them and as the device does. -/
theorem lPts_eq (p : Tiles) (f : S16384.Idx → BitVec 32) :
    lPts d (tileAt p.1 p.2) f = (lLoc d ↦[rowSet p]{fullShare} (f : Buf (Elt F) (lLoc d)) : PropT F) :=
  congrArg (fun I : Finset S16384.Idx => (lLoc d ↦[I]{fullShare} (f : Buf (Elt F) (lLoc d)) : PropT F)) (View.set_slice_whole _ _)

/-- All the chunks of an array, dealt by SparseCore, vector subcore and number. -/
theorem deal (Φ : Chunks → PropT F) :
    bigSep Finset.univ Φ = bigSep Finset.univ fun c => bigSep Finset.univ fun i => bigSep Finset.univ fun r => Φ ⟨c, i, r⟩ := by
  rw [bigSep_univ_prod]
  exact bigSep_congr fun c _ => bigSep_univ_prod _

/-- The three arrays whole are the tiles' pieces. -/
theorem arrays_eq (X Y : S3276800.Idx → F .f32) (f : S16384.Idx → BitVec 32) :
    (bigSep Finset.univ fun c => bigSep Finset.univ fun i => tilePts d (tileAt c i) X Y f)
      = (iprop((xLoc d ↦{fullShare} (X : Buf (Elt F) (xLoc d))) ∗ (vLoc d ↦{fullShare} (Y : Buf (Elt F) (vLoc d)))
          ∗ (lLoc d ↦{fullShare} (f : Buf (Elt F) (lLoc d)))) : PropT F) := by
  have hx : (xLoc d ↦{fullShare} (X : Buf (Elt F) (xLoc d)) : PropT F) = bigSep Finset.univ fun c => bigSep Finset.univ fun i =>
      bigSep Finset.univ fun r => xPts d (tileAt c i) X r := by
    rw [← deal fun p => xPts d (tileAt p.1 p.2.1) X p.2.2, bigSep_congr fun p _ => xPts_eq d p X,
      ← pointsTo_biUnion Finset.univ (ℓ := xLoc d) chunkSet chunks_disjoint, chunks_cover]
  have hv : (vLoc d ↦{fullShare} (Y : Buf (Elt F) (vLoc d)) : PropT F) = bigSep Finset.univ fun c => bigSep Finset.univ fun i =>
      bigSep Finset.univ fun r => vPts d (tileAt c i) Y r := by
    rw [← deal fun p => vPts d (tileAt p.1 p.2.1) Y p.2.2, bigSep_congr fun p _ => vPts_eq d p Y,
      ← pointsTo_biUnion Finset.univ (ℓ := vLoc d) chunkSet chunks_disjoint, chunks_cover]
  have hl : (lLoc d ↦{fullShare} (f : Buf (Elt F) (lLoc d)) : PropT F) = bigSep Finset.univ fun c => bigSep Finset.univ fun i =>
      lPts d (tileAt c i) f := by
    rw [← bigSep_univ_prod (fun p : Tiles => lPts d (tileAt p.1 p.2) f), bigSep_congr fun p _ => lPts_eq d p f,
      ← pointsTo_biUnion Finset.univ (ℓ := lLoc d) rowSet rows_disjoint, rows_cover]
  unfold tilePts
  rw [hx, hv, hl]
  simp only [bigSep_sep']

end Cert.Proof.KernelIdeal
-- ==== Proof.KernelIdeal.Launch.lean ====
/-
  The launch: what the call hands each tile and takes back, the program's entry function on the TensorCore, and the run
  of the whole program, with the values of both results.
-/
module

public import proofs.«01_k».proof.Proof.KernelIdeal.Arrays

@[expose] public section

noncomputable section

namespace Cert.Proof.KernelIdeal

open Cert.KernelIdeal Cert.KernelIdeal.Gen Cert.Search

open Idealize.ShloMosaic
open Idealize.ShloMosaic.SparseCore (S V T)
open Idealize.ShloMosaic.SparseCore.Cfg (HIx Pay)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

/-! ## The arrays -/

abbrev aLoc (d : Dev nD) : Loc nD τ sig := (SparseCore.T d).loc main_arg0
abbrev wLoc (d : Dev nD) : Loc nD τ sig := (SparseCore.T d).loc main_v2

/-- The input on device `d`, and the input flattened. -/
abbrev input (d : Dev nD) : S16384x200.Idx → F .f32 := m (aLoc d)
def flatInput (d : Dev nD) : S3276800.Idx → F .f32 := shapeCast S3276800 (input m d) shapeCasts_S16384x200_S3276800

/-- The two results on device `d`. -/
def values (d : Dev nD) : S16384x200.Idx → F .f32 := shapeCast S16384x200 (valsOf (flatInput m d)) shapeCasts_S3276800_S16384x200
def lengths (d : Dev nD) : S16384.Idx → BitVec 32 := lensOf (flatInput m d)

/-! ## What the call hands over -/

/-- A tile's pieces as the call hands them over, and as it takes them back. -/
abbrev goPts (d : Dev nD) (L : grid0.Coords) : PropT F := tilePts d L (flatInput m d) (m (vLoc d)) (m (lLoc d))
abbrev tdPts (d : Dev nD) (L : grid0.Coords) : PropT F := tilePts d L (flatInput m d) (valsOf (flatInput m d)) (lensOf (flatInput m d))

/-- The call's payloads: each SparseCore gets its tiles' pieces, each tile its own. -/
def P : (K (F := F)).Pay (nD := nD) (Val := Elt F) (Name := ℕ) (U := UU) where
  st := fun q d c => match q with | 0 => bigSep Finset.univ fun i : Fin (grid0.bound 1) => goPts m d (tileAt c i)
  dn := fun q d c => match q with | 0 => bigSep Finset.univ fun i : Fin (grid0.bound 1) => tdPts m d (tileAt c i)
  go := fun q d c i => match q with | 0 => goPts m d (tileAt c i)
  td := fun q d c i => match q with | 0 => tdPts m d (tileAt c i)
  x := fun _ _ => iprop(emp)

instance tilePts_storable (d : Dev nD) (L : grid0.Coords) (X Y : S3276800.Idx → F .f32) (f : S16384.Idx → BitVec 32) :
    BI.Storable (upEmb : UEmb _ (MT nD τ sig (HIx 1) (Elt F) ℕ UU ℕ)) (tilePts d L X Y f) := by
  unfold tilePts; infer_instance

instance P_storable : (P (F := F) m).IsStorable where
  st q _ _ := match q with | 0 => by unfold P; infer_instance
  dn q _ _ := match q with | 0 => by unfold P; infer_instance
  go q _ _ _ := match q with | 0 => by unfold P; infer_instance
  td q _ _ _ := match q with | 0 => by unfold P; infer_instance

/-! ## The call's obligations -/

/-- Calling the kernel on a tile runs the tile's body. -/
theorem defs₀_tile (c : Fin τ.nSC) (s : Fin τ.nSub) :
    defs₀ (F := F) (.scVector c s) 0 () = SparseCore.onTile hcore0 hsub0 (fun c s => kernel (tileAt c s)) ⟨⟩ c s := rfl

/-- What a tile's run leaves, as the launch states it. -/
theorem tile_post {A B C : PropT F} {d : Dev nD} {L : grid0.Coords} {O : CellTallies nD τ sig (HIx 1)} {W : Waits sig (HIx 1)} {q : Fin 1} :
    iprop(A ∗ B ∗ C ∗ owing d L O W)
      ⊢ iprop(A ∗ B ∗ C ∗ ∃ W', ⌜∀ p ∈ W', p ∈ W ∨ p.2 = none ∨ p.2 = some q⌝ ∗ owes (thr d L) O W') := by
  unfold owing
  iintro ⟨HA, HB, HC, %W', %hW', HO⟩
  iframe
  iexists W'
  isplitr
  · ipureintro; exact fun p hp => (hW' p hp).imp_right Or.inl
  · iexact HO

/-- Every tile turns the pieces handed to it into those taken back. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact (tile_body d (tileAt ⟨_, hc.1⟩ ⟨_, hc.2⟩) hF (flatInput m d) (m (vLoc d)) (m (lLoc d)) O W hO).trans (wp_mono frame _ _ fun _ => tile_post)

/-- A SparseCore hands its pieces to its tiles and takes theirs back, as they are. -/
theorem vecSplit : (K (F := F)).VecSplit' (P m) 0 := by
  intro d c
  show (bigSep Finset.univ fun i : Fin (grid0.bound 1) => goPts m d (tileAt c i)) ⊢ |={Set.univ}=> iprop(
      (bigSep Finset.univ fun i : Fin (grid0.bound 1) => goPts m d (tileAt c i))
      ∗ ((bigSep Finset.univ fun i : Fin (grid0.bound 1) => tdPts m d (tileAt c i))
          -∗ bigSep Finset.univ fun i : Fin (grid0.bound 1) => tdPts m d (tileAt c i)))
  iintro H; imodintro
  isplitl [H]; · iexact H
  iintro H; iexact H

/-! ## The ghost state at launch -/

def u₀ : UU := (initOf (K (F := F)).hsCells (K (F := F)).hsToks, 1)

/-- No thread is handed anything beside the arrays. -/
theorem noExtra : (bigSep Finset.univ fun thr : Thread nD τ => bigSep Finset.univ fun q : Fin 1 => (P m).x q thr) = (BI.emp : PropT F) :=
  (bigSep_congr fun _ _ => bigSep_emp_const _).trans (bigSep_emp_const _)

/-- The launch's ghost state is that of the signals between the cores. -/
theorem hu₀ : (ownU (u₀ (F := F)) : PropT F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · iapply (Entails.of_eq (bigSep_emp_const _).symm); iempintro
  · iapply (Entails.of_eq (noExtra m).symm); iempintro

/-! ## The entry function -/

/-- The five arrays of the entry function, as the device names them. -/
abbrev a' : DevRef τ sig := Proc.devRef .tc (main_arg0 : Ref sig .tc)
abbrev x' : DevRef τ sig := Proc.devRef .tc (main_v0 : Ref sig .tc)
abbrev v' : DevRef τ sig := Proc.devRef .tc (main_v1_0 : Ref sig .tc)
abbrev l' : DevRef τ sig := Proc.devRef .tc (main_v1_1 : Ref sig .tc)
abbrev w' : DevRef τ sig := Proc.devRef .tc (main_v2 : Ref sig .tc)
abbrev arrays : Finset (DevRef τ sig) := {a', x', v', l', w'}

/-- The two reshapes. -/
abbrev flatten : HloOp τ sig (Elt F) := StableHlo.reshape main_arg0 main_v0 (rfl : (.f32 : EltTy) = .f32) shapeCasts_S16384x200_S3276800
abbrev unflatten : HloOp τ sig (Elt F) := StableHlo.reshape main_v1_0 main_v2 (rfl : (.f32 : EltTy) = .f32) shapeCasts_S3276800_S16384x200

/-- Holding the arrays is holding each of the five. -/
theorem held_arrays (d : Dev nD) (W : Valuation τ sig (Elt F)) :
    (held (SparseCore.T d) arrays W : PropT F) = iprop((aLoc d ↦{fullShare} W a') ∗ (xLoc d ↦{fullShare} W x') ∗ (vLoc d ↦{fullShare} W v')
      ∗ (lLoc d ↦{fullShare} W l') ∗ wLoc d ↦{fullShare} W w') := by
  unfold held arrays
  rw [SparseCore.bigSep_insert' (by decide), SparseCore.bigSep_insert' (by decide), SparseCore.bigSep_insert' (by decide),
    SparseCore.bigSep_insert' (by decide), bigSep_singleton]

/-- The arrays as the launch finds them. -/
def atLaunch (d : Dev nD) : Valuation τ sig (Elt F) := fun b => m (d, b)

/-- The arrays as the launch finds them. -/
theorem unscoped_eq (d : Dev nD) : (unscopedBufs d (fun b => m ((SparseCore.T d).loc b)) : PropT F) = held (SparseCore.T d) arrays (atLaunch m d) := by
  rw [held_arrays]
  unfold unscopedBufs
  rw [show (Finset.univ.filter fun b : Ref sig .tc => ¬ b.isScoped) = {main_arg0, main_v0, main_v1_0, main_v1_1, main_v2} by decide,
    SparseCore.bigSep_insert' (by decide), SparseCore.bigSep_insert' (by decide), SparseCore.bigSep_insert' (by decide),
    SparseCore.bigSep_insert' (by decide), bigSep_singleton]
  rfl

/-- The arrays after the call. -/
def afterCall (d : Dev nD) : Valuation τ sig (Elt F) :=
  Function.update (Function.update ((flatten (F := F)).result (atLaunch m d)) v' (valsOf (flatInput m d))) l' (lensOf (flatInput m d))

/-- The first reshape leaves every other array as it was, -/
theorem flatten_ne (d : Dev nD) (b : DevRef τ sig) (h : b ≠ x') : (flatten (F := F)).result (atLaunch m d) b = m (d, b) :=
  (flatten (F := F)).result_of_not_mem (atLaunch m d) (fun hb => h (Finset.mem_singleton.mp hb))

/-- and puts the flattened input in its own. -/
theorem flatten_x (d : Dev nD) : (flatten (F := F)).result (atLaunch m d) x' = (flatInput m d : Buf (Elt F) (xLoc d)) := by
  rw [StableHlo.reshape_result]; rfl

/-- The call leaves every array but its two results as it was; -/
theorem afterCall_ne (d : Dev nD) (b : DevRef τ sig) (hv : b ≠ v') (hl : b ≠ l') :
    afterCall m d b = (flatten (F := F)).result (atLaunch m d) b := by
  unfold afterCall; rw [Function.update_of_ne hl, Function.update_of_ne hv]

/-- the first holds the values -/
theorem afterCall_v (d : Dev nD) : afterCall m d v' = (valsOf (flatInput m d) : Buf (Elt F) (vLoc d)) := by
  unfold afterCall; rw [Function.update_of_ne (by decide), Function.update_self]

/-- and the second the row lengths. -/
theorem afterCall_l (d : Dev nD) : afterCall m d l' = (lensOf (flatInput m d) : Buf (Elt F) (lLoc d)) := by
  unfold afterCall; rw [Function.update_self]

/-- The arrays when the call is made. -/
theorem held_flat (d : Dev nD) : (held (SparseCore.T d) arrays ((flatten (F := F)).result (atLaunch m d)) : PropT F)
    = iprop((aLoc d ↦{fullShare} m (aLoc d)) ∗ (xLoc d ↦{fullShare} (flatInput m d : Buf (Elt F) (xLoc d))) ∗ (vLoc d ↦{fullShare} m (vLoc d))
      ∗ (lLoc d ↦{fullShare} m (lLoc d)) ∗ wLoc d ↦{fullShare} m (wLoc d)) := by
  rw [held_arrays, flatten_ne m d a' (by decide), flatten_x, flatten_ne m d v' (by decide), flatten_ne m d l' (by decide),
    flatten_ne m d w' (by decide)]

/-- The arrays when the call has returned. -/
theorem held_called (d : Dev nD) : (held (SparseCore.T d) arrays (afterCall m d) : PropT F)
    = iprop((aLoc d ↦{fullShare} m (aLoc d)) ∗ (xLoc d ↦{fullShare} (flatInput m d : Buf (Elt F) (xLoc d)))
      ∗ (vLoc d ↦{fullShare} (valsOf (flatInput m d) : Buf (Elt F) (vLoc d)))
      ∗ (lLoc d ↦{fullShare} (lensOf (flatInput m d) : Buf (Elt F) (lLoc d))) ∗ wLoc d ↦{fullShare} m (wLoc d)) := by
  rw [held_arrays, afterCall_ne m d a' (by decide) (by decide), afterCall_ne m d x' (by decide) (by decide), afterCall_v, afterCall_l,
    afterCall_ne m d w' (by decide) (by decide), flatten_ne m d a' (by decide), flatten_x, flatten_ne m d w' (by decide)]

/-- The arrays when the entry function returns. -/
theorem held_end (d : Dev nD) : (held (SparseCore.T d) arrays ((unflatten (F := F)).result (afterCall m d)) : PropT F)
    = iprop((aLoc d ↦{fullShare} m (aLoc d)) ∗ (xLoc d ↦{fullShare} (flatInput m d : Buf (Elt F) (xLoc d)))
      ∗ (vLoc d ↦{fullShare} (valsOf (flatInput m d) : Buf (Elt F) (vLoc d)))
      ∗ (lLoc d ↦{fullShare} (lengths m d : Buf (Elt F) (lLoc d))) ∗ wLoc d ↦{fullShare} (values m d : Buf (Elt F) (wLoc d))) := by
  have hne (b : DevRef τ sig) (h : b ≠ w') : (unflatten (F := F)).result (afterCall m d) b = afterCall m d b :=
    (unflatten (F := F)).result_of_not_mem (afterCall m d) (fun hb => h (Finset.mem_singleton.mp hb))
  have hw : (unflatten (F := F)).result (afterCall m d) w' = (values m d : Buf (Elt F) (wLoc d)) := by
    rw [StableHlo.reshape_result, afterCall_v]; rfl
  rw [held_arrays, hne a' (by decide), hne x' (by decide), hne v' (by decide), hne l' (by decide), hw,
    afterCall_ne m d a' (by decide) (by decide), afterCall_ne m d x' (by decide) (by decide), afterCall_v, afterCall_l,
    flatten_ne m d a' (by decide), flatten_x]
  rfl

/-- What the call hands to all tiles together is the flattened input and the two result arrays. -/
theorem st_eq (d : Dev nD) : (bigSep Finset.univ fun c : Fin ((K (F := F)).nCore 0) => (P m).st 0 d c)
    = iprop((xLoc d ↦{fullShare} (flatInput m d : Buf (Elt F) (xLoc d))) ∗ (vLoc d ↦{fullShare} m (vLoc d)) ∗ (lLoc d ↦{fullShare} m (lLoc d))) :=
  arrays_eq d (flatInput m d) (m (vLoc d)) (m (lLoc d))

/-- What all tiles together hand back is the same arrays, the results now holding the values and the lengths. -/
theorem dn_eq (d : Dev nD) : (bigSep Finset.univ fun c : Fin ((K (F := F)).nCore 0) => (P m).dn 0 d c)
    = iprop((xLoc d ↦{fullShare} (flatInput m d : Buf (Elt F) (xLoc d))) ∗ (vLoc d ↦{fullShare} (valsOf (flatInput m d) : Buf (Elt F) (vLoc d)))
      ∗ (lLoc d ↦{fullShare} (lensOf (flatInput m d) : Buf (Elt F) (lLoc d)))) :=
  arrays_eq d (flatInput m d) (valsOf (flatInput m d)) (lensOf (flatInput m d))

/-- What the entry function leaves: the input as it was, and the two results. -/
abbrev FIN (d : Dev nD) : PropT F := iprop((aLoc d ↦{fullShare} m (aLoc d)) ∗ (wLoc d ↦{fullShare} (values m d : Buf (Elt F) (wLoc d)))
  ∗ (lLoc d ↦{fullShare} (lengths m d : Buf (Elt F) (lLoc d))))

/-- The first reshape touches only the five arrays. -/
theorem flatten_bufs : (flatten (F := F)).bufs ⊆ arrays := show ({a', x'} : Finset (DevRef τ sig)) ⊆ arrays by decide
/-- The second reshape touches only the five arrays. -/
theorem unflatten_bufs : (unflatten (F := F)).bufs ⊆ arrays := show ({v', w'} : Finset (DevRef τ sig)) ⊆ arrays by decide

/-- The entry function flattens the input, makes the call, and shapes the values: it leaves the input and the two results. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, Hheld, Hts, -⟩, -⟩
  iapply (wp_hlo_within 𝒱 (SparseCore.T d) none Set.univ (op := flatten) (S := arrays) flatten_bufs (V := atLaunch m d)) $$ [Hb Hheld]
  · iframe
  iintro ⟨Hb, Hheld⟩
  rw [wp_ret]; imodintro
  ihave Hheld := (Entails.of_eq (held_flat m d)) $$ Hheld
  icases Hheld with ⟨Ha, Hx, Hv, Hl, Hw⟩
  iapply ((K (F := F)).wp_run (D (F := F)) 𝒱 (EH := EH) (P := P m) κ d 0) $$ [Hst Ha Hx Hv Hl Hw Hb Hts]
  isplitr; · iexact Hctx
  isplitl [Hst]; · iexact Hst
  isplitl [Hx Hv Hl]
  · rw [st_eq]; iframe
  iintro ⟨Hst, Hdn⟩
  ihave Hdn := (Entails.of_eq (dn_eq m d)) $$ Hdn
  icases Hdn with ⟨Hx, Hv, Hl⟩
  iapply (wp_hlo_within 𝒱 (SparseCore.T d) none Set.univ (op := unflatten) (S := arrays) unflatten_bufs (V := afterCall m d)) $$ [Hb Ha Hx Hv Hl Hw]
  · rw [held_called]; iframe
  iintro ⟨Hb, Hheld⟩
  ihave Hheld := (Entails.of_eq (held_end m d)) $$ Hheld
  icases Hheld with ⟨Ha, Hx, Hv, Hl, Hw⟩
  rw [wp_ret]; imodintro; imodintro
  isplitl [Hst]; · iexact Hst
  isplitl [Ha Hw Hl]
  · unfold FIN; iframe
  · iframe

/-! ## The run -/

/-- What the run leaves on device `d`. -/
def Left (d : Dev nD) (M : (ℓ : Loc nD τ sig) → Buf (Elt F) ℓ) : Prop :=
  M (aLoc d) = m (aLoc d) ∧ M (wLoc d) = values m d ∧ M (lLoc d) = lengths m d

/-- Memory holds what the entry function left. -/
theorem hfin (d : Dev nD) (s' : Phys nD τ sig (Elt F)) : iprop(FIN m d ∗ SI s') ⊢ (⌜Left m d s'.mem.mem⌝ : PropT F) := by
  iintro ⟨⟨Ha, Hw, Hl⟩, HSI⟩
  ihave H := (persistent_entails_right (SI_pointsTo_agree (st := s') (ℓ := aLoc d) (I := Finset.univ) (q := fullShare) (f := m (aLoc d)))) $$ [HSI Ha]
  · iframe
  icases H with ⟨%h1, HSI, -⟩
  ihave H := (persistent_entails_right (SI_pointsTo_agree (st := s') (ℓ := wLoc d) (I := Finset.univ) (q := fullShare) (f := values m d))) $$ [HSI Hw]
  · iframe
  icases H with ⟨%h2, HSI, -⟩
  ihave H := (SI_pointsTo_agree (st := s') (ℓ := lLoc d) (I := Finset.univ) (q := fullShare) (f := lengths m d)) $$ [HSI Hl]
  · iframe
  icases H with %h3
  ipureintro
  exact ⟨funext fun i => h1 i (Finset.mem_univ i), funext fun i => h2 i (Finset.mem_univ i), funext fun i => h3 i (Finset.mem_univ i)⟩

/-- Every run of the program ends with the input as it was, the two results in place, and every semaphore at zero. -/
theorem run_main [∀ e, Nonempty (Elt F e)] : θ_run (defs (F := F)) (threads (F := F)) ⟨m, fun _ => 0, ρ⟩
    (fun r => (∀ d, Left m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fun d s => Left m d s.mem.mem) (hfin m)
    (fun r => (∀ d, Left m d r.2.mem) ∧ r.2.sem = fun _ => 0) (fun _ h hz => ⟨h, hz⟩)

end Cert.Proof.KernelIdeal
-- ==== Proof.Reference.lean ====
/-
  What the reference computes on the reals: the length of a row whose padding trails, and the values with the padding
  replaced by zero.
-/
module

public import proofs.«01_k».proof.Proof.Search
public import proofs.«01_k».proof.Proof.Gen.ReferenceIdeal.Run
public import proofs.«01_k».proof.Proof.Gen.Pre_padding_trails
public import Idealize.ShloMosaic.PureOps.Ideal
public import Idealize.ShloMosaic.PureOps.Ideal.Laws
public import Idealize.ShloMosaic.PureOps.Reduce
public import Idealize.ShloMosaic.Lib.Pointwise
public import Idealize.ShloMosaic.Lib.SortNet.Extract

@[expose] public section

noncomputable section

namespace Cert.Proof.Reference

open Cert.ReferenceIdeal Cert.ReferenceIdeal.Gen Cert.Search
open Idealize.ShloMosaic

/-- An input array. -/
abbrev Input := S16384x200.Idx → Ideal .f32

/-- Element `k` of row `r`. -/
def cell (r : Fin 16384) (k : ℕ) : S16384x200.Idx := ix2 r ⟨k % 200, Nat.mod_lt _ (by decide)⟩

/-- Every index is an element of its row. -/
theorem cell_eq (i : S16384x200.Idx) : cell (i 0) (i 1).val = i := by
  funext a
  match a with
  | ⟨0, _⟩ => rfl
  | ⟨1, _⟩ => exact Fin.ext (Nat.mod_eq_of_lt (i 1).isLt)

/-- Element `k` of row `r` has those coordinates. -/
theorem cell_ix2 (r : Fin 16384) (k : Fin 200) : cell r k.val = ix2 r k := cell_eq (ix2 r k)

/-- Whether element `k` of row `r` is padding. -/
def rowPad (x : Input) (r : Fin 16384) (k : ℕ) : Bool := isPad (x (cell r k))

/-- The padding of every row trails: what follows a padding element in its row is padding. -/
def Trails (x : Input) : Prop := ∀ r j k, j ≤ k → k < 200 → rowPad x r j = true → rowPad x r k = true

/-- On the reals an element is padding exactly when it equals the padding value. -/
theorem isPad_iff (a : Ideal .f32) : isPad a = decide (a = padWord) := by
  unfold isPad
  rw [Ideal.cmpf_def]
  show (BitVec.ofBool (decide (a = padWord)) == 1#1) = _
  cases decide (a = padWord) <;> rfl

/-- The precondition says that the padding of every row trails. -/
theorem trails_of_pre (x : Input) (h : Cert.Pre_padding_trails.fn (F := Ideal) x = fun _ => 1#1) : Trails x := by
  have hstep (r : Fin 16384) (k : ℕ) (hk : k < 199) (hp : rowPad x r k = true) : rowPad x r (k + 1) = true := by
    have hi := congrFun h (ix2 r ⟨k, hk⟩)
    dsimp only [Cert.Pre_padding_trails.fn] at hi
    pointwise at hi
    unfold rowPad at hp ⊢
    rw [isPad_iff, decide_eq_true_iff] at hp ⊢
    have h0 : cell r k = ix2 r ⟨k, by omega⟩ := cell_ix2 r ⟨k, by omega⟩
    have h1 : cell r (k + 1) = ix2 r ⟨1 + k, by omega⟩ := by rw [Nat.add_comm k 1]; exact cell_ix2 r ⟨1 + k, by omega⟩
    rw [h0] at hp; rw [h1]
    by_contra hn
    exact absurd hi (by
      have e1 := decide_eq_false (not_not.mpr hp)
      have e2 := decide_eq_false hn
      intro hi
      refine absurd (hi.symm.trans (congrArg₂ (fun a b => IntOp.ori (BitVec.ofBool a) (BitVec.ofBool b)) e1 e2)) (by decide))
  intro r j k hjk
  induction k, hjk using Nat.le_induction with
  | base => exact fun _ h => h
  | succ k _ ih => exact fun hk hj => hstep r k (by omega) (ih (by omega) hj)

/-- The marks the reference gives the elements. -/
def marks (x : Input) : IVec S16384x200 32 :=
  select (cmpf .une x (broadcastInDim S16384x200 ![] bcast_S_S16384x200 (constant S_ .f32 0xBF800000#32)))
    (broadcastInDim S16384x200 ![0, 1] bcast_S1x200_S16384x200_0_1 (broadcastInDim S1x200 ![1] bcast_S200_S1x200_1
      (addi (broadcastInDim S200 ![] bcast_S_S200 (constantI S_ 32 1#32)) (iotaInDim S200 32 0))))
    (broadcastInDim S16384x200 ![] bcast_S_S16384x200 (id (constantI S_ 32 0#32)))

/-- The mark of an element is one more than its place in its row, or zero for padding. -/
theorem marks_apply (x : Input) (i : S16384x200.Idx) : marks x i = if isPad (x i) then 0#32 else BitVec.ofNat 32 ((i 1).val + 1) := by
  unfold marks
  pointwise
  rw [isPad_iff]
  by_cases h : x i = padWord
  · rw [decide_eq_true h]; exact if_neg (not_not.mpr h)
  · rw [decide_eq_false h]
    refine (if_pos h).trans ?_
    show 1#32 + BitVec.ofNat 32 _ = BitVec.ofNat 32 (_ + 1)
    rw [BitVec.ofNat_add, BitVec.add_comm]

/-- The reference's row lengths: the largest mark of each row. -/
def rowLengths (x : Input) : IVec S16384 32 :=
  Host.reduce IntOp.maxsi (marks x) (constantI S_ 32 2147483648#32) reducesTo_S16384x200_S16384_d1 h_S_

/-- A row's length is the signed maximum, from the least word, of the marks of its elements. -/
theorem rowLengths_fold (x : Input) (r : Fin 16384) :
    rowLengths x (ix1 r) = (Finset.univ : Finset (Fin 200)).fold IntOp.maxsi 2147483648#32 (fun k => marks x (cell r k.val)) := by
  unfold rowLengths
  have hr : S16384x200.Reduces [(1 : Fin 2)] S16384 := by decide
  rw [Host.reduce_eq_fold_single _ _ _ _ hr]
  refine congrArg (Finset.fold _ _ · _) (funext fun k => congrArg (marks x) (funext fun a => Fin.ext ?_))
  rw [hr.lift_val]
  match a with
  | ⟨0, _⟩ => rfl
  | ⟨1, _⟩ => exact (Nat.mod_eq_of_lt k.isLt).symm

/-- The largest mark of a row whose padding trails is its number of elements that are not padding. -/
theorem fold_marks {p : ℕ → Bool} (hp : ∀ j k, j ≤ k → k < 200 → p j = true → p k = true) :
    (Finset.univ : Finset (Fin 200)).fold IntOp.maxsi 2147483648#32 (fun k => if p k.val then 0#32 else BitVec.ofNat 32 (k.val + 1))
      = BitVec.ofNat 32 (len p) := by
  have hL := len_le p
  have hg (k : Fin 200) : (if p k.val then 0#32 else BitVec.ofNat 32 (k.val + 1)).toInt = if k.val < len p then (k.val + 1 : Int) else 0 := by
    have hs := len_spec hp k.isLt
    by_cases h : k.val < len p
    · rw [if_pos h, hs.mpr h, if_neg Bool.false_ne_true, toInt_ofNat_small (by omega)]; push_cast; rfl
    · rw [if_neg h, if_pos (by simpa using mt hs.mp h)]; rfl
  obtain ⟨-, hge, hmem⟩ := SortNet.fold_maxsi_spec (fun k : Fin 200 => if p k.val then 0#32 else BitVec.ofNat 32 (k.val + 1)) Finset.univ 2147483648#32
  have hge (k : Fin 200) := (hg k).symm.le.trans (hge k (Finset.mem_univ k))
  refine BitVec.eq_of_toInt_eq ?_
  rw [toInt_ofNat_small (by omega)]
  refine le_antisymm ?_ ?_
  · rcases hmem with h | ⟨k, -, h⟩
    · rw [h, show (2147483648#32 : BitVec 32).toInt = -2147483648 from rfl]; omega
    · rw [h, hg]; split <;> omega
  · by_cases h0 : len p = 0
    · have := hge ⟨0, by decide⟩
      rw [if_neg (by omega)] at this
      omega
    · have := hge ⟨len p - 1, by omega⟩
      rw [if_pos (by simp only; omega)] at this
      simp only at this
      omega

/-- The reference's length of a row, where padding trails, is what the bisection finds. -/
theorem rowLengths_eq {x : Input} (h : Trails x) (r : Fin 16384) : rowLengths x (ix1 r) = BitVec.ofNat 32 (len (rowPad x r)) := by
  rw [rowLengths_fold, ← fold_marks (h r)]
  refine congrArg (Finset.fold _ _ · _) (funext fun k => ?_)
  rw [marks_apply, show ((cell r k.val) 1).val = k.val from Nat.mod_eq_of_lt k.isLt]
  rfl

/-- The reference's values. -/
def refValues (x : Input) : Input :=
  select (cmpi .slt (broadcastInDim S16384x200 ![0, 1] bcast_S1x200_S16384x200_0_1 (broadcastInDim S1x200 ![1] bcast_S200_S1x200_1 (iotaInDim S200 32 0))) (broadcastInDim S16384x200 ![0, 1] bcast_S16384x1_S16384x200_0_1 (broadcastInDim S16384x1 ![0] bcast_S16384_S16384x1_0 (rowLengths x)))) x (broadcastInDim S16384x200 ![] bcast_S_S16384x200 (constant S_ .f32 0x00000000#32))

/-- Where padding trails, the reference's values are the input with the padding replaced by zero. -/
theorem refValues_eq {x : Input} (h : Trails x) (i : S16384x200.Idx) : refValues x i = if isPad (x i) then 0 else x i := by
  unfold refValues
  pointwise
  have hL := len_le (rowPad x (i 0))
  have hi : (i 1).val < 200 := (i 1).isLt
  have hc : IntOp.cmpi .slt (BitVec.ofNat 32 (i 1).val) (rowLengths x (ix1 (i 0))) = BitVec.ofBool (decide ((i 1).val < len (rowPad x (i 0)))) :=
    (congrArg (IntOp.cmpi .slt _) (rowLengths_eq h (i 0))).trans (congrArg BitVec.ofBool (slt_ofNat (by omega) (by omega)))
  have hs := len_spec (h (i 0)) hi
  have hp : rowPad x (i 0) (i 1).val = isPad (x i) := congrArg (fun j => isPad (x j)) (cell_eq i)
  rw [hp] at hs
  rw [hc, select_ofBool]
  by_cases hlt : (i 1).val < len (rowPad x (i 0))
  · rw [decide_eq_true hlt, hs.mpr hlt, if_pos rfl, if_neg Bool.false_ne_true]
  · rw [decide_eq_false hlt, if_neg Bool.false_ne_true, if_pos (by simpa using mt hs.mp hlt)]

end Cert.Proof.Reference
-- ==== Proof.Equation.lean ====
/-
  The kernel's two results and the reference's, on the reals: equal wherever the padding of every row trails.
-/
module

public import proofs.«01_k».proof.Proof.KernelIdeal.Launch
public import proofs.«01_k».proof.Proof.Reference
public import Idealize.ShloMosaic.Lib.Pipeline.Value

@[expose] public section

noncomputable section

namespace Cert.Proof.Equation

open Cert.KernelIdeal Cert.KernelIdeal.Gen Cert.Search
open Cert.Proof.KernelIdeal (unpad valsOf lenOf lensOf)
open Cert.Proof.Reference (Input Trails cell rowPad rowLengths rowLengths_eq refValues refValues_eq)
open Idealize.ShloMosaic

/-- The input, flattened. -/
abbrev flat (x : Input) : S3276800.Idx → Ideal .f32 := shapeCast S3276800 x shapeCasts_S16384x200_S3276800

/-- Element `k` of row `r` is element `200 r + k` of the flattened input. -/
theorem flat_pos (x : Input) (r : Fin 16384) {k : ℕ} (hk : k < 200) : flat x (pos 3276800 (r.val * 200 + k)) = x (cell r k) := by
  have hr := r.isLt
  refine shapeCast_apply x _ _ _ ?_
  refine (rowMajor_val2 (cell r k) 200 rfl).trans (Eq.trans ?_ (rowMajor_val1 (pos 3276800 (r.val * 200 + k))).symm)
  refine Eq.trans ?_ (pos_val (n := 3276800) (by omega) 0).symm
  show r.val * 200 + k % 200 = _
  rw [Nat.mod_eq_of_lt hk]

/-- The kernel's row lengths are the reference's. -/
theorem lengths_eq {x : Input} (h : Trails x) : lensOf (flat x) = rowLengths x := by
  funext j
  have hj : j = ix1 (j 0) := by
    funext a
    match a with
    | ⟨0, _⟩ => rfl
  refine Eq.trans ?_ ((congrArg (rowLengths x) hj).trans (rowLengths_eq h (j 0))).symm
  show lenOf (flat x) (j 0).val = _
  unfold lenOf
  refine congrArg (BitVec.ofNat 32) (len_congr fun k hk => ?_)
  unfold rowPad
  rw [flat_pos x (j 0) hk]

/-- The kernel's values are the reference's. -/
theorem values_eq {x : Input} (h : Trails x) : shapeCast S16384x200 (valsOf (flat x)) shapeCasts_S3276800_S16384x200 = refValues x := by
  funext i
  have hi : shapeCast S16384x200 (flat x) shapeCasts_S3276800_S16384x200 i = x i := congrFun (shapeCast_shapeCast x _ _) i
  rw [refValues_eq h]
  show unpad (shapeCast S16384x200 (flat x) shapeCasts_S3276800_S16384x200 i) = _
  rw [hi]
  unfold unpad
  rw [select_pad]
  have h0 : (Scalar.ofBits .f32 0x00000000#32 : Ideal .f32) = 0 := by pointwise
  rw [h0]

end Cert.Proof.Equation
-- ==== Proof.lean ====
module

public import proofs.«01_k».proof.Defs
public import proofs.«01_k».proof.Proof.Kernel.Launch
public import proofs.«01_k».proof.Proof.Equation

@[expose] public section

noncomputable section

namespace Cert.Proof

open Idealize.ShloMosaic Idealize.SL.Sem

/-- The kernel as printed runs, leaves its input unchanged and every semaphore at zero. -/
theorem frame_kernel : Cert.quiescent_Kernel (hKernel := Cert.Kernel.Gen.facts) := fun m g _ =>
  (θ_run _ _ _).mono (fun _ h => ⟨fun c => (h.1 c).1, h.2⟩) (Kernel.run_main m g)

/-- On the reals the kernel runs, leaves its input unchanged and every semaphore at zero. -/
theorem frame_kernelIdeal : Cert.quiescent_KernelIdeal (hKernelIdeal := Cert.KernelIdeal.Gen.facts) := fun m g _ =>
  (θ_run _ _ _).mono (fun _ h => ⟨fun c => (h.1 c).1, h.2⟩) (KernelIdeal.run_main m g)

/-- On the reals the reference runs, leaves its input unchanged and every semaphore at zero. -/
theorem frame_reference : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run m g)

/-- On the reals, where the padding of every row trails, the kernel's two results are the reference's. -/
theorem algebraic : Cert.algebraic_KernelIdeal_ReferenceIdeal_pre_padding_trails (hKernelIdeal := Cert.KernelIdeal.Gen.facts)
    (hReferenceIdeal := Cert.ReferenceIdeal.Gen.facts) (hPre_padding_trails := Cert.Pre_padding_trails.Gen.facts) := by
  intro m g m' g' hpre harg
  refine ⟨KernelIdeal.values m, KernelIdeal.lengths m, ?_, ?_⟩
  · exact (θ_run _ _ _).mono (fun _ h c => ⟨(h.1 c).2.1, (h.1 c).2.2, (h.1 c).1⟩) (KernelIdeal.run_main m g)
  · refine (θ_run _ _ _).mono (fun _ h c => ?_) (Cert.ReferenceIdeal.Value.run m' g')
    have ht := Reference.trails_of_pre _ (hpre c)
    obtain ⟨hv, hl, ha⟩ := h c
    rw [harg c] at hv hl
    exact ⟨hv.trans (Equation.values_eq ht).symm, hl.trans (Equation.lengths_eq ht).symm, ha⟩

/-- All that is claimed of the three programs. -/
theorem claim : Cert.Claim := ⟨Cert.Kernel.Gen.facts, Cert.KernelIdeal.Gen.facts, Cert.ReferenceIdeal.Gen.facts, Cert.Pre_padding_trails.Gen.facts,
  frame_kernel, frame_kernelIdeal, fun m g _ => frame_kernelIdeal m g trivial, frame_reference, fun m g _ => frame_reference m g trivial, trivial,
  algebraic⟩

end Cert.Proof

end
